-- ==== Defs.lean ====
def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_gains_finite [hPre_gains_finite : Cert.Pre_gains_finite.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_gains_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2))) = (fun _ => 1#1)

def Pre_AttentionRefIdeal (m : (ℓ : Loc Cert.AttentionRefIdeal.nD Cert.AttentionRefIdeal.τ Cert.AttentionRefIdeal.sig) → Buf (Elt Ideal) ℓ) : Prop :=
  True

def Pre_AttentionRefIdeal_gains_finite [hPre_gains_finite : Cert.Pre_gains_finite.Facts] (m : (ℓ : Loc Cert.AttentionRefIdeal.nD Cert.AttentionRefIdeal.τ Cert.AttentionRefIdeal.sig) → Buf (Elt Ideal) ℓ) : Prop :=
  ∀ c : Dev Cert.AttentionRefIdeal.nD,
    (Cert.Pre_gains_finite.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2))) = (fun _ => 1#1)

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_ProjC (m : (ℓ : Loc Cert.ProjC.nD Cert.ProjC.τ Cert.ProjC.sig) → Buf (Elt Bits) ℓ) : Prop :=
  True

def Pre_ProjCIdeal (m : (ℓ : Loc Cert.ProjCIdeal.nD Cert.ProjCIdeal.τ Cert.ProjCIdeal.sig) → Buf (Elt Ideal) ℓ) : Prop :=
  True

def Pre_ProjCRefIdeal (m : (ℓ : Loc Cert.ProjCRefIdeal.nD Cert.ProjCRefIdeal.τ Cert.ProjCRefIdeal.sig) → Buf (Elt Ideal) ℓ) : Prop :=
  True

def Pre_ProjG (m : (ℓ : Loc Cert.ProjG.nD Cert.ProjG.τ Cert.ProjG.sig) → Buf (Elt Bits) ℓ) : Prop :=
  True

def Pre_ProjGIdeal (m : (ℓ : Loc Cert.ProjGIdeal.nD Cert.ProjGIdeal.τ Cert.ProjGIdeal.sig) → Buf (Elt Ideal) ℓ) : Prop :=
  True

def Pre_ProjGRefIdeal (m : (ℓ : Loc Cert.ProjGRefIdeal.nD Cert.ProjGRefIdeal.τ Cert.ProjGRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Experts [hPre_experts_named : Cert.Pre_experts_named.Facts] (m : (ℓ : Loc Cert.Experts.nD Cert.Experts.τ Cert.Experts.sig) → Buf (Elt Bits) ℓ) : Prop :=
  ∀ c : Dev Cert.Experts.nD,
    (Cert.Pre_experts_named.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_experts_named : Cert.Pre_experts_named.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_named.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_experts_named [hPre_experts_named : Cert.Pre_experts_named.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_named.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionIdeal_pre_gains_finite [hAttentionIdeal : Cert.AttentionIdeal.Facts] [hPre_gains_finite : Cert.Pre_gains_finite.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_gains_finite m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def quiescent_AttentionRefIdeal_pre_gains_finite [hAttentionRefIdeal : Cert.AttentionRefIdeal.Facts] [hPre_gains_finite : Cert.Pre_gains_finite.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal_gains_finite m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1))
      ∧ r.2.sem = fun _ => 0)

def quiescent_ProjC [hProjC : Cert.ProjC.Facts] : Prop :=
  ∀ (m : (ℓ : Loc Cert.ProjC.nD Cert.ProjC.τ Cert.ProjC.sig) → Buf (Elt Bits) ℓ) (g : Dev Cert.ProjC.nD → PrngReg), Pre_ProjC m →
    θ_run (Cert.ProjC.defs (F := Bits)) (onTc (τ := Cert.ProjC.τ) (Cert.ProjC.main (F := Bits))) ⟨m, fun _ => 0, g⟩ (fun r => (∀ c : Dev Cert.ProjC.nD,
      r.2.mem ((c.tc : Thread Cert.ProjC.nD Cert.ProjC.τ).loc Cert.ProjC.main_arg0) = m ((c.tc : Thread Cert.ProjC.nD Cert.ProjC.τ).loc Cert.ProjC.main_arg0)
      ∧ r.2.mem ((c.tc : Thread Cert.ProjC.nD Cert.ProjC.τ).loc Cert.ProjC.main_arg1) = m ((c.tc : Thread Cert.ProjC.nD Cert.ProjC.τ).loc Cert.ProjC.main_arg1))
      ∧ r.2.sem = fun _ => 0)

def quiescent_ProjCIdeal [hProjCIdeal : Cert.ProjCIdeal.Facts] : Prop :=
  ∀ (m : (ℓ : Loc Cert.ProjCIdeal.nD Cert.ProjCIdeal.τ Cert.ProjCIdeal.sig) → Buf (Elt Ideal) ℓ) (g : Dev Cert.ProjCIdeal.nD → PrngReg), Pre_ProjCIdeal m →
    θ_run (Cert.ProjCIdeal.defs (F := Ideal)) (onTc (τ := Cert.ProjCIdeal.τ) (Cert.ProjCIdeal.main (F := Ideal))) ⟨m, fun _ => 0, g⟩ (fun r => (∀ c : Dev Cert.ProjCIdeal.nD,
      r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
      ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1))
      ∧ r.2.sem = fun _ => 0)

def quiescent_ProjCRefIdeal [hProjCRefIdeal : Cert.ProjCRefIdeal.Facts] : Prop :=
  ∀ (m : (ℓ : Loc Cert.ProjCRefIdeal.nD Cert.ProjCRefIdeal.τ Cert.ProjCRefIdeal.sig) → Buf (Elt Ideal) ℓ) (g : Dev Cert.ProjCRefIdeal.nD → PrngReg), Pre_ProjCRefIdeal m →
    θ_run (Cert.ProjCRefIdeal.defs (F := Ideal)) (onTc (τ := Cert.ProjCRefIdeal.τ) (Cert.ProjCRefIdeal.main (F := Ideal))) ⟨m, fun _ => 0, g⟩ (fun r => (∀ c : Dev Cert.ProjCRefIdeal.nD,
      r.2.mem ((c.tc : Thread Cert.ProjCRefIdeal.nD Cert.ProjCRefIdeal.τ).loc Cert.ProjCRefIdeal.main_arg0) = m ((c.tc : Thread Cert.ProjCRefIdeal.nD Cert.ProjCRefIdeal.τ).loc Cert.ProjCRefIdeal.main_arg0)
      ∧ r.2.mem ((c.tc : Thread Cert.ProjCRefIdeal.nD Cert.ProjCRefIdeal.τ).loc Cert.ProjCRefIdeal.main_arg1) = m ((c.tc : Thread Cert.ProjCRefIdeal.nD Cert.ProjCRefIdeal.τ).loc Cert.ProjCRefIdeal.main_arg1))
      ∧ r.2.sem = fun _ => 0)

def quiescent_ProjG [hProjG : Cert.ProjG.Facts] : Prop :=
  ∀ (m : (ℓ : Loc Cert.ProjG.nD Cert.ProjG.τ Cert.ProjG.sig) → Buf (Elt Bits) ℓ) (g : Dev Cert.ProjG.nD → PrngReg), Pre_ProjG m →
    θ_run (Cert.ProjG.defs (F := Bits)) (onTc (τ := Cert.ProjG.τ) (Cert.ProjG.main (F := Bits))) ⟨m, fun _ => 0, g⟩ (fun r => (∀ c : Dev Cert.ProjG.nD,
      r.2.mem ((c.tc : Thread Cert.ProjG.nD Cert.ProjG.τ).loc Cert.ProjG.main_arg0) = m ((c.tc : Thread Cert.ProjG.nD Cert.ProjG.τ).loc Cert.ProjG.main_arg0)
      ∧ r.2.mem ((c.tc : Thread Cert.ProjG.nD Cert.ProjG.τ).loc Cert.ProjG.main_arg1) = m ((c.tc : Thread Cert.ProjG.nD Cert.ProjG.τ).loc Cert.ProjG.main_arg1))
      ∧ r.2.sem = fun _ => 0)

def quiescent_ProjGIdeal [hProjGIdeal : Cert.ProjGIdeal.Facts] : Prop :=
  ∀ (m : (ℓ : Loc Cert.ProjGIdeal.nD Cert.ProjGIdeal.τ Cert.ProjGIdeal.sig) → Buf (Elt Ideal) ℓ) (g : Dev Cert.ProjGIdeal.nD → PrngReg), Pre_ProjGIdeal m →
    θ_run (Cert.ProjGIdeal.defs (F := Ideal)) (onTc (τ := Cert.ProjGIdeal.τ) (Cert.ProjGIdeal.main (F := Ideal))) ⟨m, fun _ => 0, g⟩ (fun r => (∀ c : Dev Cert.ProjGIdeal.nD,
      r.2.mem ((c.tc : Thread Cert.ProjGIdeal.nD Cert.ProjGIdeal.τ).loc Cert.ProjGIdeal.main_arg0) = m ((c.tc : Thread Cert.ProjGIdeal.nD Cert.ProjGIdeal.τ).loc Cert.ProjGIdeal.main_arg0)
      ∧ r.2.mem ((c.tc : Thread Cert.ProjGIdeal.nD Cert.ProjGIdeal.τ).loc Cert.ProjGIdeal.main_arg1) = m ((c.tc : Thread Cert.ProjGIdeal.nD Cert.ProjGIdeal.τ).loc Cert.ProjGIdeal.main_arg1))
      ∧ r.2.sem = fun _ => 0)

def quiescent_ProjGRefIdeal [hProjGRefIdeal : Cert.ProjGRefIdeal.Facts] : Prop :=
  ∀ (m : (ℓ : Loc Cert.ProjGRefIdeal.nD Cert.ProjGRefIdeal.τ Cert.ProjGRefIdeal.sig) → Buf (Elt Ideal) ℓ) (g : Dev Cert.ProjGRefIdeal.nD → PrngReg), Pre_ProjGRefIdeal m →
    θ_run (Cert.ProjGRefIdeal.defs (F := Ideal)) (onTc (τ := Cert.ProjGRefIdeal.τ) (Cert.ProjGRefIdeal.main (F := Ideal))) ⟨m, fun _ => 0, g⟩ (fun r => (∀ c : Dev Cert.ProjGRefIdeal.nD,
      r.2.mem ((c.tc : Thread Cert.ProjGRefIdeal.nD Cert.ProjGRefIdeal.τ).loc Cert.ProjGRefIdeal.main_arg0) = m ((c.tc : Thread Cert.ProjGRefIdeal.nD Cert.ProjGRefIdeal.τ).loc Cert.ProjGRefIdeal.main_arg0)
      ∧ r.2.mem ((c.tc : Thread Cert.ProjGRefIdeal.nD Cert.ProjGRefIdeal.τ).loc Cert.ProjGRefIdeal.main_arg1) = m ((c.tc : Thread Cert.ProjGRefIdeal.nD Cert.ProjGRefIdeal.τ).loc Cert.ProjGRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8))
      ∧ r.2.sem = fun _ => 0)

def quiescent_Experts [hExperts : Cert.Experts.Facts] [hPre_experts_named : Cert.Pre_experts_named.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_experts_named : Cert.Pre_experts_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_ExpertsRefIdeal_pre_experts_named [hExpertsRefIdeal : Cert.ExpertsRefIdeal.Facts] [hPre_experts_named : Cert.Pre_experts_named.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_experts_named m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5))
      ∧ r.2.sem = fun _ => 0)

def preserves_Attention_AttentionIdeal : Prop :=
  True

def algebraic_AttentionIdeal_AttentionRefIdeal_pre_gains_finite [hAttentionIdeal : Cert.AttentionIdeal.Facts] [hAttentionRefIdeal : Cert.AttentionRefIdeal.Facts] [hPre_gains_finite : Cert.Pre_gains_finite.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal_gains_finite m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)) →
    ∃ (v0 : (c : Dev Cert.AttentionIdeal.nD) → Buf (Elt Ideal) ((c.tc : Thread Cert.AttentionIdeal.nD Cert.AttentionIdeal.τ).loc Cert.AttentionIdeal.main_v37)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v37) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v170) = v0 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)) →
    ∃ (v0 : (c : Dev Cert.ProjAIdeal.nD) → Buf (Elt Ideal) ((c.tc : Thread Cert.ProjAIdeal.nD Cert.ProjAIdeal.τ).loc Cert.ProjAIdeal.main_v4)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v4) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v2) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)) →
    ∃ (v0 : (c : Dev Cert.ProjBIdeal.nD) → Buf (Elt Ideal) ((c.tc : Thread Cert.ProjBIdeal.nD Cert.ProjBIdeal.τ).loc Cert.ProjBIdeal.main_v4)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v4) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v2) = v0 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1))

def preserves_ProjC_ProjCIdeal : Prop :=
  True

def algebraic_ProjCIdeal_ProjCRefIdeal [hProjCIdeal : Cert.ProjCIdeal.Facts] [hProjCRefIdeal : Cert.ProjCRefIdeal.Facts] : Prop :=
  ∀ (m : (ℓ : Loc Cert.ProjCIdeal.nD Cert.ProjCIdeal.τ Cert.ProjCIdeal.sig) → Buf (Elt Ideal) ℓ) (g : Dev Cert.ProjCIdeal.nD → PrngReg)
    (m' : (ℓ : Loc Cert.ProjCRefIdeal.nD Cert.ProjCRefIdeal.τ Cert.ProjCRefIdeal.sig) → Buf (Elt Ideal) ℓ) (g' : Dev Cert.ProjCRefIdeal.nD → PrngReg), Pre_ProjCIdeal m →
    (∀ c : Dev Cert.ProjCIdeal.nD,
      m' ((c.tc : Thread Cert.ProjCRefIdeal.nD Cert.ProjCRefIdeal.τ).loc Cert.ProjCRefIdeal.main_arg0) = m ((c.tc : Thread Cert.ProjCIdeal.nD Cert.ProjCIdeal.τ).loc Cert.ProjCIdeal.main_arg0)
      ∧ m' ((c.tc : Thread Cert.ProjCRefIdeal.nD Cert.ProjCRefIdeal.τ).loc Cert.ProjCRefIdeal.main_arg1) = m ((c.tc : Thread Cert.ProjCIdeal.nD Cert.ProjCIdeal.τ).loc Cert.ProjCIdeal.main_arg1)) →
    ∃ (v0 : (c : Dev Cert.ProjCIdeal.nD) → Buf (Elt Ideal) ((c.tc : Thread Cert.ProjCIdeal.nD Cert.ProjCIdeal.τ).loc Cert.ProjCIdeal.main_v4)),
      θ_run (Cert.ProjCIdeal.defs (F := Ideal)) (onTc (τ := Cert.ProjCIdeal.τ) (Cert.ProjCIdeal.main (F := Ideal))) ⟨m, fun _ => 0, g⟩ (fun r => ∀ c : Dev Cert.ProjCIdeal.nD,
          r.2.mem ((c.tc : Thread Cert.ProjCIdeal.nD Cert.ProjCIdeal.τ).loc Cert.ProjCIdeal.main_v4) = v0 c
          ∧ r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
          ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1))
      ∧ θ_run (Cert.ProjCRefIdeal.defs (F := Ideal)) (onTc (τ := Cert.ProjCRefIdeal.τ) (Cert.ProjCRefIdeal.main (F := Ideal))) ⟨m', fun _ => 0, g'⟩ (fun r => ∀ c : Dev Cert.ProjCRefIdeal.nD,
          r.2.mem ((c.tc : Thread Cert.ProjCRefIdeal.nD Cert.ProjCRefIdeal.τ).loc Cert.ProjCRefIdeal.main_v2) = v0 c
          ∧ r.2.mem ((c.tc : Thread Cert.ProjCRefIdeal.nD Cert.ProjCRefIdeal.τ).loc Cert.ProjCRefIdeal.main_arg0) = m' ((c.tc : Thread Cert.ProjCRefIdeal.nD Cert.ProjCRefIdeal.τ).loc Cert.ProjCRefIdeal.main_arg0)
          ∧ r.2.mem ((c.tc : Thread Cert.ProjCRefIdeal.nD Cert.ProjCRefIdeal.τ).loc Cert.ProjCRefIdeal.main_arg1) = m' ((c.tc : Thread Cert.ProjCRefIdeal.nD Cert.ProjCRefIdeal.τ).loc Cert.ProjCRefIdeal.main_arg1))

def preserves_ProjG_ProjGIdeal : Prop :=
  True

def algebraic_ProjGIdeal_ProjGRefIdeal [hProjGIdeal : Cert.ProjGIdeal.Facts] [hProjGRefIdeal : Cert.ProjGRefIdeal.Facts] : Prop :=
  ∀ (m : (ℓ : Loc Cert.ProjGIdeal.nD Cert.ProjGIdeal.τ Cert.ProjGIdeal.sig) → Buf (Elt Ideal) ℓ) (g : Dev Cert.ProjGIdeal.nD → PrngReg)
    (m' : (ℓ : Loc Cert.ProjGRefIdeal.nD Cert.ProjGRefIdeal.τ Cert.ProjGRefIdeal.sig) → Buf (Elt Ideal) ℓ) (g' : Dev Cert.ProjGRefIdeal.nD → PrngReg), Pre_ProjGIdeal m →
    (∀ c : Dev Cert.ProjGIdeal.nD,
      m' ((c.tc : Thread Cert.ProjGRefIdeal.nD Cert.ProjGRefIdeal.τ).loc Cert.ProjGRefIdeal.main_arg0) = m ((c.tc : Thread Cert.ProjGIdeal.nD Cert.ProjGIdeal.τ).loc Cert.ProjGIdeal.main_arg0)
      ∧ m' ((c.tc : Thread Cert.ProjGRefIdeal.nD Cert.ProjGRefIdeal.τ).loc Cert.ProjGRefIdeal.main_arg1) = m ((c.tc : Thread Cert.ProjGIdeal.nD Cert.ProjGIdeal.τ).loc Cert.ProjGIdeal.main_arg1)) →
    ∃ (v0 : (c : Dev Cert.ProjGIdeal.nD) → Buf (Elt Ideal) ((c.tc : Thread Cert.ProjGIdeal.nD Cert.ProjGIdeal.τ).loc Cert.ProjGIdeal.main_v4)),
      θ_run (Cert.ProjGIdeal.defs (F := Ideal)) (onTc (τ := Cert.ProjGIdeal.τ) (Cert.ProjGIdeal.main (F := Ideal))) ⟨m, fun _ => 0, g⟩ (fun r => ∀ c : Dev Cert.ProjGIdeal.nD,
          r.2.mem ((c.tc : Thread Cert.ProjGIdeal.nD Cert.ProjGIdeal.τ).loc Cert.ProjGIdeal.main_v4) = v0 c
          ∧ r.2.mem ((c.tc : Thread Cert.ProjGIdeal.nD Cert.ProjGIdeal.τ).loc Cert.ProjGIdeal.main_arg0) = m ((c.tc : Thread Cert.ProjGIdeal.nD Cert.ProjGIdeal.τ).loc Cert.ProjGIdeal.main_arg0)
          ∧ r.2.mem ((c.tc : Thread Cert.ProjGIdeal.nD Cert.ProjGIdeal.τ).loc Cert.ProjGIdeal.main_arg1) = m ((c.tc : Thread Cert.ProjGIdeal.nD Cert.ProjGIdeal.τ).loc Cert.ProjGIdeal.main_arg1))
      ∧ θ_run (Cert.ProjGRefIdeal.defs (F := Ideal)) (onTc (τ := Cert.ProjGRefIdeal.τ) (Cert.ProjGRefIdeal.main (F := Ideal))) ⟨m', fun _ => 0, g'⟩ (fun r => ∀ c : Dev Cert.ProjGRefIdeal.nD,
          r.2.mem ((c.tc : Thread Cert.ProjGRefIdeal.nD Cert.ProjGRefIdeal.τ).loc Cert.ProjGRefIdeal.main_v2) = v0 c
          ∧ r.2.mem ((c.tc : Thread Cert.ProjGRefIdeal.nD Cert.ProjGRefIdeal.τ).loc Cert.ProjGRefIdeal.main_arg0) = m' ((c.tc : Thread Cert.ProjGRefIdeal.nD Cert.ProjGRefIdeal.τ).loc Cert.ProjGRefIdeal.main_arg0)
          ∧ r.2.mem ((c.tc : Thread Cert.ProjGRefIdeal.nD Cert.ProjGRefIdeal.τ).loc Cert.ProjGRefIdeal.main_arg1) = m' ((c.tc : Thread Cert.ProjGRefIdeal.nD Cert.ProjGRefIdeal.τ).loc Cert.ProjGRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v27) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v8_0)) (v1 : (c : Dev Cert.OutProjIdeal.nD) → Buf (Elt Ideal) ((c.tc : Thread Cert.OutProjIdeal.nD Cert.OutProjIdeal.τ).loc Cert.OutProjIdeal.main_v8_1)) (v2 : (c : Dev Cert.OutProjIdeal.nD) → Buf (Elt Ideal) ((c.tc : Thread Cert.OutProjIdeal.nD Cert.OutProjIdeal.τ).loc Cert.OutProjIdeal.main_v8_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v8_0) = v0 c
          ∧ r.2.mem ((c.tc : Thread Cert.OutProjIdeal.nD Cert.OutProjIdeal.τ).loc Cert.OutProjIdeal.main_v8_1) = v1 c
          ∧ r.2.mem ((c.tc : Thread Cert.OutProjIdeal.nD Cert.OutProjIdeal.τ).loc Cert.OutProjIdeal.main_v8_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v28) = v0 c
          ∧ r.2.mem ((c.tc : Thread Cert.OutProjRefIdeal.nD Cert.OutProjRefIdeal.τ).loc Cert.OutProjRefIdeal.main_v38) = v1 c
          ∧ r.2.mem ((c.tc : Thread Cert.OutProjRefIdeal.nD Cert.OutProjRefIdeal.τ).loc Cert.OutProjRefIdeal.main_v39) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_named : Cert.Pre_experts_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v28) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)) →
    ∃ (v0 : (c : Dev Cert.CombineIdeal.nD) → Buf (Elt Ideal) ((c.tc : Thread Cert.CombineIdeal.nD Cert.CombineIdeal.τ).loc Cert.CombineIdeal.main_v3_0)) (v1 : (c : Dev Cert.CombineIdeal.nD) → Buf (Elt Ideal) ((c.tc : Thread Cert.CombineIdeal.nD Cert.CombineIdeal.τ).loc Cert.CombineIdeal.main_v3_1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v3_0) = v0 c
          ∧ r.2.mem ((c.tc : Thread Cert.CombineIdeal.nD Cert.CombineIdeal.τ).loc Cert.CombineIdeal.main_v3_1) = v1 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v33) = v0 c
          ∧ r.2.mem ((c.tc : Thread Cert.CombineRefIdeal.nD Cert.CombineRefIdeal.τ).loc Cert.CombineRefIdeal.main_v34) = v1 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5))

def Claim : Prop :=
  ∃ (hAttention : Cert.Attention.Facts) (hAttentionIdeal : Cert.AttentionIdeal.Facts) (hAttentionRefIdeal : Cert.AttentionRefIdeal.Facts) (hProjA : Cert.ProjA.Facts) (hProjAIdeal : Cert.ProjAIdeal.Facts) (hProjARefIdeal : Cert.ProjARefIdeal.Facts) (hProjB : Cert.ProjB.Facts) (hProjBIdeal : Cert.ProjBIdeal.Facts) (hProjBRefIdeal : Cert.ProjBRefIdeal.Facts) (hProjC : Cert.ProjC.Facts) (hProjCIdeal : Cert.ProjCIdeal.Facts) (hProjCRefIdeal : Cert.ProjCRefIdeal.Facts) (hProjG : Cert.ProjG.Facts) (hProjGIdeal : Cert.ProjGIdeal.Facts) (hProjGRefIdeal : Cert.ProjGRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hExperts : Cert.Experts.Facts) (hExpertsIdeal : Cert.ExpertsIdeal.Facts) (hExpertsRefIdeal : Cert.ExpertsRefIdeal.Facts) (hCombine : Cert.Combine.Facts) (hCombineIdeal : Cert.CombineIdeal.Facts) (hCombineRefIdeal : Cert.CombineRefIdeal.Facts) (hPre_gains_finite : Cert.Pre_gains_finite.Facts) (hPre_experts_named : Cert.Pre_experts_named.Facts),
    quiescent_Attention (hAttention := hAttention)
    ∧ quiescent_AttentionIdeal (hAttentionIdeal := hAttentionIdeal)
    ∧ quiescent_AttentionIdeal_pre_gains_finite (hAttentionIdeal := hAttentionIdeal) (hPre_gains_finite := hPre_gains_finite)
    ∧ quiescent_AttentionRefIdeal (hAttentionRefIdeal := hAttentionRefIdeal)
    ∧ quiescent_AttentionRefIdeal_pre_gains_finite (hAttentionRefIdeal := hAttentionRefIdeal) (hPre_gains_finite := hPre_gains_finite)
    ∧ quiescent_ProjA (hProjA := hProjA)
    ∧ quiescent_ProjAIdeal (hProjAIdeal := hProjAIdeal)
    ∧ quiescent_ProjARefIdeal (hProjARefIdeal := hProjARefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_ProjC (hProjC := hProjC)
    ∧ quiescent_ProjCIdeal (hProjCIdeal := hProjCIdeal)
    ∧ quiescent_ProjCRefIdeal (hProjCRefIdeal := hProjCRefIdeal)
    ∧ quiescent_ProjG (hProjG := hProjG)
    ∧ quiescent_ProjGIdeal (hProjGIdeal := hProjGIdeal)
    ∧ quiescent_ProjGRefIdeal (hProjGRefIdeal := hProjGRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Experts (hExperts := hExperts) (hPre_experts_named := hPre_experts_named)
    ∧ quiescent_ExpertsIdeal (hExpertsIdeal := hExpertsIdeal) (hPre_experts_named := hPre_experts_named)
    ∧ quiescent_ExpertsRefIdeal (hExpertsRefIdeal := hExpertsRefIdeal)
    ∧ quiescent_ExpertsRefIdeal_pre_experts_named (hExpertsRefIdeal := hExpertsRefIdeal) (hPre_experts_named := hPre_experts_named)
    ∧ quiescent_Combine (hCombine := hCombine)
    ∧ quiescent_CombineIdeal (hCombineIdeal := hCombineIdeal)
    ∧ quiescent_CombineRefIdeal (hCombineRefIdeal := hCombineRefIdeal)
    ∧ preserves_Attention_AttentionIdeal
    ∧ algebraic_AttentionIdeal_AttentionRefIdeal_pre_gains_finite (hAttentionIdeal := hAttentionIdeal) (hAttentionRefIdeal := hAttentionRefIdeal) (hPre_gains_finite := hPre_gains_finite)
    ∧ preserves_ProjA_ProjAIdeal
    ∧ algebraic_ProjAIdeal_ProjARefIdeal (hProjAIdeal := hProjAIdeal) (hProjARefIdeal := hProjARefIdeal)
    ∧ preserves_ProjB_ProjBIdeal
    ∧ algebraic_ProjBIdeal_ProjBRefIdeal (hProjBIdeal := hProjBIdeal) (hProjBRefIdeal := hProjBRefIdeal)
    ∧ preserves_ProjC_ProjCIdeal
    ∧ algebraic_ProjCIdeal_ProjCRefIdeal (hProjCIdeal := hProjCIdeal) (hProjCRefIdeal := hProjCRefIdeal)
    ∧ preserves_ProjG_ProjGIdeal
    ∧ algebraic_ProjGIdeal_ProjGRefIdeal (hProjGIdeal := hProjGIdeal) (hProjGRefIdeal := hProjGRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_Experts_ExpertsIdeal
    ∧ algebraic_ExpertsIdeal_ExpertsRefIdeal (hExpertsIdeal := hExpertsIdeal) (hExpertsRefIdeal := hExpertsRefIdeal) (hPre_experts_named := hPre_experts_named)
    ∧ preserves_Combine_CombineIdeal
    ∧ algebraic_CombineIdeal_CombineRefIdeal (hCombineIdeal := hCombineIdeal) (hCombineRefIdeal := hCombineRefIdeal)
-- ==== Pre_experts_named.lean ====
abbrev S49152x2048 : Shape := ⟨2, ![49152, 2048]⟩
abbrev S192 : Shape := ⟨1, ![192]⟩
abbrev S64x2048x384 : Shape := ⟨3, ![64, 2048, 384]⟩
abbrev S64x384x2048 : Shape := ⟨3, ![64, 384, 2048]⟩
abbrev S_ : Shape := ⟨0, ![]⟩

class Facts : Prop where
  bcast_S_S192 : S_.BroadcastsInDim S192 (![] : Fin 0 → Fin S192.rank)
  reducesTo_S192_S_d0 : S192.ReducesTo [0] S_
  h_S_ : 0 < S_.numel

variable [Facts]

def fn {F : FTy → Type} [FloatOps F] (main_arg0 : FVec F S49152x2048 .bf16) (main_arg1 : IVec S192 32) (main_arg2 : FVec F S64x2048x384 .f32) (main_arg3 : FVec F S64x2048x384 .f32) (main_arg4 : FVec F S64x384x2048 .f32) : IVec S_ 1 :=
  let main_c : IVec S_ 32 := constantI S_ 32 0#32
  let main_v0 : IVec S192 32 := broadcastInDim S192 ![] bcast_S_S192 main_c
  let main_v1 : IVec S192 1 := cmpi .sge main_arg1 main_v0
  let main_c_0 : IVec S_ 32 := constantI S_ 32 64#32
  let main_v2 : IVec S192 32 := broadcastInDim S192 ![] bcast_S_S192 main_c_0
  let main_v3 : IVec S192 1 := cmpi .slt main_arg1 main_v2
  let main_v4 : IVec S192 1 := andi main_v1 main_v3
  let main_c_1 : IVec S_ 1 := constantI S_ 1 1#1
  let main_v5 : IVec S_ 1 := (fun x v => Host.reduce IntOp.andi x v reducesTo_S192_S_d0 h_S_) main_v4 main_c_1
  main_v5
-- ==== Pre_gains_finite.lean ====
abbrev S16384x1536 : Shape := ⟨2, ![16384, 1536]⟩
abbrev S128 : Shape := ⟨1, ![128]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : FVec F S16384x1536 .f32) (main_arg1 : FVec F S128 .f32) (main_arg2 : FVec F S128 .f32) : IVec S_ 1 :=
  let main_v0 : FVec F S128 .f32 := Host.absf main_arg1
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Attention.lean ====
abbrev S16384x1536 : Shape := ⟨2, ![16384, 1536]⟩
abbrev S128 : Shape := ⟨1, ![128]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1x128 : Shape := ⟨2, ![1, 128]⟩
abbrev S16384x1024 : Shape := ⟨2, ![16384, 1024]⟩
abbrev S256x128 : Shape := ⟨2, ![256, 128]⟩
abbrev S256 : Shape := ⟨1, ![256]⟩
abbrev S256x1 : Shape := ⟨2, ![256, 1]⟩
abbrev S256x4096 : Shape := ⟨2, ![256, 4096]⟩

abbrev nBuf : Space → Nat
  | .hbm => 83
  | .vmem => 18
  | .smem => 0
  | _ => 0

abbrev bufTy : (tb : Table) → Fin (tcTables nBuf tb) → BufTy
  | .hbm, ⟨0, _⟩ => ⟨S16384x1536, .f32⟩
  | .hbm, ⟨1, _⟩ => ⟨S128, .f32⟩
  | .hbm, ⟨2, _⟩ => ⟨S128, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S4096, .i32⟩
  | .hbm, ⟨18, _⟩ => ⟨S_, .i32⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S4096, .i32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S4096, .f32⟩
  | .hbm, ⟨37, _⟩ => ⟨S4096x1, .f32⟩
  | .hbm, ⟨38, _⟩ => ⟨S1x32, .f32⟩
  | .hbm, ⟨39, _⟩ => ⟨S4096x32, .f32⟩
  | .hbm, ⟨40, _⟩ => ⟨S4096x32, .f32⟩
  | .hbm, ⟨41, _⟩ => ⟨S4096x32, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S_, .i1⟩
  | .hbm, ⟨58, _⟩ => ⟨S4096, .i1⟩
  | .hbm, ⟨59, _⟩ => ⟨S4096, .i1⟩
  | .hbm, ⟨60, _⟩ => ⟨S4096, .i1⟩
  | .hbm, ⟨61, _⟩ => ⟨S4096, .i32⟩
  | .hbm, ⟨62, _⟩ => ⟨S4096, .i32⟩
  | .hbm, ⟨63, _⟩ => ⟨S4096, .i32⟩
  | .hbm, ⟨64, _⟩ => ⟨S4096, .f32⟩
  | .hbm, ⟨65, _⟩ => ⟨S4096x1, .f32⟩
  | .hbm, ⟨66, _⟩ => ⟨S1x32, .f32⟩
  | .hbm, ⟨67, _⟩ => ⟨S4096x32, .f32⟩
  | .hbm, ⟨68, _⟩ => ⟨S4096x32, .f32⟩
  | .hbm, ⟨69, _⟩ => ⟨S4096x32, .f32⟩
  | .hbm, ⟨70, _⟩ => ⟨S4096x32, .f32⟩
  | .hbm, ⟨71, _⟩ => ⟨S4096x32, .f32⟩
  | .hbm, ⟨72, _⟩ => ⟨S4096x128, .f32⟩
  | .hbm, ⟨73, _⟩ => ⟨S4096x32, .f32⟩
  | .hbm, ⟨74, _⟩ => ⟨S4096x32, .f32⟩
  | .hbm, ⟨75, _⟩ => ⟨S4096x32, .f32⟩
  | .hbm, ⟨76, _⟩ => ⟨S4096x32, .f32⟩
  | .hbm, ⟨77, _⟩ => ⟨S4096x32, .f32⟩
  | .hbm, ⟨78, _⟩ => ⟨S4096x32, .f32⟩
  | .hbm, ⟨79, _⟩ => ⟨S4096x128, .f32⟩
  | .hbm, ⟨80, _⟩ => ⟨S1x128, .f32⟩
  | .hbm, ⟨81, _⟩ => ⟨S1x128, .f32⟩
  | .hbm, ⟨82, _⟩ => ⟨S16384x1024, .bf16⟩
  | .local _ .vmem, ⟨0, _⟩ => ⟨S256x128, .f32⟩
  | .local _ .vmem, ⟨1, _⟩ => ⟨S256x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S4096x128, .f32⟩
  | .local _ .vmem, ⟨11, _⟩ => ⟨S4096x128, .f32⟩
  | .local _ .vmem, ⟨12, _⟩ => ⟨S1x128, .f32⟩
  | .local _ .vmem, ⟨13, _⟩ => ⟨S1x128, .f32⟩
  | .local _ .vmem, ⟨14, _⟩ => ⟨S256x128, .bf16⟩
  | .local _ .vmem, ⟨15, _⟩ => ⟨S256x128, .bf16⟩
  | .local _ .vmem, ⟨16, _⟩ => ⟨S4096x128, .bf16⟩
  | .local _ .vmem, ⟨17, _⟩ => ⟨S4096x128, .bf16⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_1 : Ref sig .tc := ⟨.hbm, 50, rfl⟩
abbrev main_call1_v5 : Ref sig .tc := ⟨.hbm, 51, rfl⟩
abbrev main_call1_v6 : Ref sig .tc := ⟨.hbm, 52, rfl⟩
abbrev main_call1_c_2 : Ref sig .tc := ⟨.hbm, 53, rfl⟩
abbrev main_call1_v7 : Ref sig .tc := ⟨.hbm, 54, rfl⟩
abbrev main_call1_v8 : Ref sig .tc := ⟨.hbm, 55, rfl⟩
abbrev main_call1_c_3 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨4, ![4, 2, 4, 16], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg3
  let c4_i32 : BitVec 32 := 4#32
  let v2 : BitVec 32 := Scalar.muli arg1 c4_i32
  let v3 : BitVec 32 := Scalar.addi v2 arg2
  let c0_i32 : BitVec 32 := 0#32
  ![v1.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c10_i32 : BitVec 32 := 10#32
  let v0 : BitVec 32 := Scalar.addi c10_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg3
  let c4_i32 : BitVec 32 := 4#32
  let v2 : BitVec 32 := Scalar.muli arg1 c4_i32
  let v3 : BitVec 32 := Scalar.addi v2 arg2
  let c0_i32 : BitVec 32 := 0#32
  ![v1.toNat, v3.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, false, true]

abbrev stage0_5 : Fin 1 → Memref sig .tc .vmem S4096x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false, false]

abbrev stage0_6 : Fin 1 → Memref sig .tc .vmem S4096x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false, false]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true, true]
-- ==== AttentionRefIdeal.lean ====
abbrev S16384x1536 : Shape := ⟨2, ![16384, 1536]⟩
abbrev S128 : Shape := ⟨1, ![128]⟩
abbrev S16384x1024 : Shape := ⟨2, ![16384, 1024]⟩
abbrev S4x4096x8x128 : Shape := ⟨4, ![4, 4096, 8, 128]⟩
abbrev S16384x256 : Shape := ⟨2, ![16384, 256]⟩
abbrev S4x4096x2x128 : Shape := ⟨4, ![4, 4096, 2, 128]⟩
abbrev S64 : Shape := ⟨1, ![64]⟩
abbrev S64x64 : Shape := ⟨2, ![64, 64]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S4x4096x8x64 : Shape := ⟨4, ![4, 4096, 8, 64]⟩
abbrev S4x4096x8x32 : Shape := ⟨4, ![4, 4096, 8, 32]⟩
abbrev S1x4096x1x32 : Shape := ⟨4, ![1, 4096, 1, 32]⟩
abbrev S4x4096x2 : Shape := ⟨3, ![4, 4096, 2]⟩
abbrev S4x4096x2x1 : Shape := ⟨4, ![4, 4096, 2, 1]⟩
abbrev S4x4096x2x64 : Shape := ⟨4, ![4, 4096, 2, 64]⟩
abbrev S4x4096x2x32 : Shape := ⟨4, ![4, 4096, 2, 32]⟩
abbrev S4x4096x2x4x128 : Shape := ⟨5, ![4, 4096, 2, 4, 128]⟩
abbrev S4x2x4096x4096x4 : Shape := ⟨5, ![4, 2, 4096, 4096, 4]⟩
abbrev S4x2x4x4096x4096 : Shape := ⟨5, ![4, 2, 4, 4096, 4096]⟩
abbrev S4x2x4x4096 : Shape := ⟨4, ![4, 2, 4, 4096]⟩
abbrev S4x2x4x4096x1 : Shape := ⟨5, ![4, 2, 4, 4096, 1]⟩
abbrev S4x2x128x4x4096 : Shape := ⟨5, ![4, 2, 128, 4, 4096]⟩

abbrev nBuf : Space → Nat
  | .hbm => 213
  | .vmem => 0
  | .smem => 0
  | _ => 0

abbrev hbmTy0_0 (i : Nat) : BufTy := match i % 128 with
  | 0 => ⟨S16384x1536, .f32⟩
  | 1 => ⟨S128, .f32⟩
  | 2 => ⟨S128, .f32⟩
  | 3 => ⟨S16384x1024, .f32⟩
  | 4 => ⟨S4x4096x8x128, .f32⟩
  | 5 => ⟨S16384x256, .f32⟩
  | 6 => ⟨S4x4096x2x128, .f32⟩
  | 7 => ⟨S16384x256, .f32⟩
  | 8 => ⟨S4x4096x2x128, .f32⟩
  | 9 => ⟨S64, .i32⟩
  | 10 => ⟨S64x64, .i32⟩
  | 11 => ⟨S4096, .i32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S4096, .f32⟩
  | 27 => ⟨S4096x1, .f32⟩
  | 28 => ⟨S1x32, .f32⟩
  | 29 => ⟨S4096x32, .f32⟩
  | 30 => ⟨S4096x32, .f32⟩
  | 31 => ⟨S4096x32, .f32⟩
  | 32 => ⟨S4096x32, .f32⟩
  | 33 => ⟨S4096x1x32, .f32⟩
  | 34 => ⟨S4096x32, .f32⟩
  | 35 => ⟨S4096x1x32, .f32⟩
  | 36 => ⟨S4096, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S4096, .i32⟩
  | 44 => ⟨S4096, .i32⟩
  | 45 => ⟨S_, .i32⟩
  | 46 => ⟨S4096, .i32⟩
  | 47 => ⟨S4096, .i1⟩
  | 48 => ⟨S_, .i32⟩
  | 49 => ⟨S4096, .i32⟩
  | 50 => ⟨S4096, .i1⟩
  | 51 => ⟨S_, .i32⟩
  | 52 => ⟨S_, .i1⟩
  | 53 => ⟨S4096, .i1⟩
  | 54 => ⟨S4096, .i1⟩
  | 55 => ⟨S4096, .i1⟩
  | 56 => ⟨S4096, .i32⟩
  | 57 => ⟨S4096, .i32⟩
  | 58 => ⟨S4096, .i32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S32, .f32⟩
  | 67 => ⟨S_, .f32⟩
  | 68 => ⟨S32, .f32⟩
  | 69 => ⟨S32, .f32⟩
  | 70 => ⟨S_, .f32⟩
  | 71 => ⟨S32, .f32⟩
  | 72 => ⟨S32, .f32⟩
  | 73 => ⟨S4096, .f32⟩
  | 74 => ⟨S4096x1, .f32⟩
  | 75 => ⟨S1x32, .f32⟩
  | 76 => ⟨S4096x32, .f32⟩
  | 77 => ⟨S4096x32, .f32⟩
  | 78 => ⟨S4096x32, .f32⟩
  | 79 => ⟨S4096x32, .f32⟩
  | 80 => ⟨S4096x1x32, .f32⟩
  | 81 => ⟨S4096x32, .f32⟩
  | 82 => ⟨S4096x1x32, .f32⟩
  | 83 => ⟨S4x4096x8x128, .f32⟩
  | 84 => ⟨S_, .f32⟩
  | 85 => ⟨S4x4096x8, .f32⟩
  | 86 => ⟨S4x4096x8x1, .f32⟩
  | 87 => ⟨S_, .f32⟩
  | 88 => ⟨S4x4096x8x1, .f32⟩
  | 89 => ⟨S4x4096x8x1, .f32⟩
  | 90 => ⟨S_, .f32⟩
  | 91 => ⟨S4x4096x8x1, .f32⟩
  | 92 => ⟨S4x4096x8x1, .f32⟩
  | 93 => ⟨S4x4096x8x1, .f32⟩
  | 94 => ⟨S4x4096x8x128, .f32⟩
  | 95 => ⟨S4x4096x8x128, .f32⟩
  | 96 => ⟨S1x1x1x128, .f32⟩
  | 97 => ⟨S4x4096x8x128, .f32⟩
  | 98 => ⟨S4x4096x8x128, .f32⟩
  | 99 => ⟨S4x4096x8x64, .f32⟩
  | 100 => ⟨S4x4096x8x32, .f32⟩
  | 101 => ⟨S4x4096x8x32, .f32⟩
  | 102 => ⟨S1x4096x1x32, .f32⟩
  | 103 => ⟨S4x4096x8x32, .f32⟩
  | 104 => ⟨S4x4096x8x32, .f32⟩
  | 105 => ⟨S1x4096x1x32, .f32⟩
  | 106 => ⟨S4x4096x8x32, .f32⟩
  | 107 => ⟨S4x4096x8x32, .f32⟩
  | 108 => ⟨S4x4096x8x32, .f32⟩
  | 109 => ⟨S1x4096x1x32, .f32⟩
  | 110 => ⟨S4x4096x8x32, .f32⟩
  | 111 => ⟨S4x4096x8x32, .f32⟩
  | 112 => ⟨S1x4096x1x32, .f32⟩
  | 113 => ⟨S4x4096x8x32, .f32⟩
  | 114 => ⟨S4x4096x8x32, .f32⟩
  | 115 => ⟨S4x4096x8x32, .f32⟩
  | 116 => ⟨S4x4096x8x64, .f32⟩
  | 117 => ⟨S4x4096x8x64, .f32⟩
  | 118 => ⟨S4x4096x8x32, .f32⟩
  | 119 => ⟨S4x4096x8x32, .f32⟩
  | 120 => ⟨S1x4096x1x32, .f32⟩
  | 121 => ⟨S4x4096x8x32, .f32⟩
  | 122 => ⟨S4x4096x8x32, .f32⟩
  | 123 => ⟨S1x4096x1x32, .f32⟩
  | 124 => ⟨S4x4096x8x32, .f32⟩
  | 125 => ⟨S4x4096x8x32, .f32⟩
  | 126 => ⟨S4x4096x8x32, .f32⟩
  | 127 => ⟨S1x4096x1x32, .f32⟩
  | _ => ⟨S16384x1536, .f32⟩

abbrev hbmTy0_1 (i : Nat) : BufTy := match i % 128 with
  | 0 => ⟨S4x4096x8x32, .f32⟩
  | 1 => ⟨S4x4096x8x32, .f32⟩
  | 2 => ⟨S1x4096x1x32, .f32⟩
  | 3 => ⟨S4x4096x8x32, .f32⟩
  | 4 => ⟨S4x4096x8x32, .f32⟩
  | 5 => ⟨S4x4096x8x32, .f32⟩
  | 6 => ⟨S4x4096x8x64, .f32⟩
  | 7 => ⟨S4x4096x8x128, .f32⟩
  | 8 => ⟨S_, .f32⟩
  | 9 => ⟨S4x4096x8x128, .f32⟩
  | 10 => ⟨S4x4096x8x128, .f32⟩
  | 11 => ⟨S4x4096x2x128, .f32⟩
  | 12 => ⟨S_, .f32⟩
  | 13 => ⟨S4x4096x2, .f32⟩
  | 14 => ⟨S4x4096x2x1, .f32⟩
  | 15 => ⟨S_, .f32⟩
  | 16 => ⟨S4x4096x2x1, .f32⟩
  | 17 => ⟨S4x4096x2x1, .f32⟩
  | 18 => ⟨S_, .f32⟩
  | 19 => ⟨S4x4096x2x1, .f32⟩
  | 20 => ⟨S4x4096x2x1, .f32⟩
  | 21 => ⟨S4x4096x2x1, .f32⟩
  | 22 => ⟨S4x4096x2x128, .f32⟩
  | 23 => ⟨S4x4096x2x128, .f32⟩
  | 24 => ⟨S1x1x1x128, .f32⟩
  | 25 => ⟨S4x4096x2x128, .f32⟩
  | 26 => ⟨S4x4096x2x128, .f32⟩
  | 27 => ⟨S4x4096x2x64, .f32⟩
  | 28 => ⟨S4x4096x2x32, .f32⟩
  | 29 => ⟨S4x4096x2x32, .f32⟩
  | 30 => ⟨S1x4096x1x32, .f32⟩
  | 31 => ⟨S4x4096x2x32, .f32⟩
  | 32 => ⟨S4x4096x2x32, .f32⟩
  | 33 => ⟨S1x4096x1x32, .f32⟩
  | 34 => ⟨S4x4096x2x32, .f32⟩
  | 35 => ⟨S4x4096x2x32, .f32⟩
  | 36 => ⟨S4x4096x2x32, .f32⟩
  | 37 => ⟨S1x4096x1x32, .f32⟩
  | 38 => ⟨S4x4096x2x32, .f32⟩
  | 39 => ⟨S4x4096x2x32, .f32⟩
  | 40 => ⟨S1x4096x1x32, .f32⟩
  | 41 => ⟨S4x4096x2x32, .f32⟩
  | 42 => ⟨S4x4096x2x32, .f32⟩
  | 43 => ⟨S4x4096x2x32, .f32⟩
  | 44 => ⟨S4x4096x2x64, .f32⟩
  | 45 => ⟨S4x4096x2x64, .f32⟩
  | 46 => ⟨S4x4096x2x32, .f32⟩
  | 47 => ⟨S4x4096x2x32, .f32⟩
  | 48 => ⟨S1x4096x1x32, .f32⟩
  | 49 => ⟨S4x4096x2x32, .f32⟩
  | 50 => ⟨S4x4096x2x32, .f32⟩
  | 51 => ⟨S1x4096x1x32, .f32⟩
  | 52 => ⟨S4x4096x2x32, .f32⟩
  | 53 => ⟨S4x4096x2x32, .f32⟩
  | 54 => ⟨S4x4096x2x32, .f32⟩
  | 55 => ⟨S1x4096x1x32, .f32⟩
  | 56 => ⟨S4x4096x2x32, .f32⟩
  | 57 => ⟨S4x4096x2x32, .f32⟩
  | 58 => ⟨S1x4096x1x32, .f32⟩
  | 59 => ⟨S4x4096x2x32, .f32⟩
  | 60 => ⟨S4x4096x2x32, .f32⟩
  | 61 => ⟨S4x4096x2x32, .f32⟩
  | 62 => ⟨S4x4096x2x64, .f32⟩
  | 63 => ⟨S4x4096x2x128, .f32⟩
  | 64 => ⟨S4x4096x2x4x128, .f32⟩
  | 65 => ⟨S4x2x4096x4096x4, .f32⟩
  | 66 => ⟨S4x2x4x4096x4096, .f32⟩
  | 67 => ⟨S_, .f32⟩
  | 68 => ⟨S4x2x4x4096, .f32⟩
  | 69 => ⟨S_, .f32⟩
  | 70 => ⟨S4x2x4x4096, .f32⟩
  | 71 => ⟨S4x2x4x4096, .f32⟩
  | 72 => ⟨S4x2x4x4096x1, .f32⟩
  | 73 => ⟨S4x2x4x4096x4096, .f32⟩
  | 74 => ⟨S4x2x4x4096x4096, .f32⟩
  | 75 => ⟨S4x2x4x4096x4096, .f32⟩
  | 76 => ⟨S_, .f32⟩
  | 77 => ⟨S4x2x4x4096, .f32⟩
  | 78 => ⟨S4x2x4x4096x1, .f32⟩
  | 79 => ⟨S4x2x4x4096x4096, .f32⟩
  | 80 => ⟨S4x2x4x4096x4096, .f32⟩
  | 81 => ⟨S4x2x128x4x4096, .f32⟩
  | 82 => ⟨S4x4096x2x4x128, .f32⟩
  | 83 => ⟨S16384x1024, .f32⟩
  | 84 => ⟨S16384x1024, .bf16⟩
  | _ => ⟨S16384x1536, .f32⟩

abbrev hbmTy (i : Nat) : BufTy := match i / 128 with
  | 0 => hbmTy0_0 i
  | 1 => hbmTy0_1 i
  | _ => ⟨S16384x1536, .f32⟩

abbrev bufTy : (tb : Table) → Fin (tcTables nBuf tb) → BufTy
  | .hbm, ⟨i, _⟩ => hbmTy i
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c : Ref sig .tc := ⟨.hbm, 37, rfl⟩
abbrev main_call0_v0 : Ref sig .tc := ⟨.hbm, 38, rfl⟩
abbrev main_call0_c : Ref sig .tc := ⟨.hbm, 39, rfl⟩
abbrev main_call0_v1 : Ref sig .tc := ⟨.hbm, 40, rfl⟩
abbrev main_call0_c_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_c_1 : Ref sig .tc := ⟨.hbm, 45, rfl⟩
abbrev main_call0_v5 : Ref sig .tc := ⟨.hbm, 46, rfl⟩
abbrev main_call0_v6 : Ref sig .tc := ⟨.hbm, 47, rfl⟩
abbrev main_call0_c_2 : Ref sig .tc := ⟨.hbm, 48, rfl⟩
abbrev main_call0_v7 : Ref sig .tc := ⟨.hbm, 49, rfl⟩
abbrev main_call0_v8 : Ref sig .tc := ⟨.hbm, 50, rfl⟩
abbrev main_call0_c_3 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_v12 : Ref sig .tc := ⟨.hbm, 55, rfl⟩
abbrev main_call0_v13 : Ref sig .tc := ⟨.hbm, 56, rfl⟩
abbrev main_call0_v14 : Ref sig .tc := ⟨.hbm, 57, rfl⟩
abbrev main_v30 : Ref sig .tc := ⟨.hbm, 58, rfl⟩
abbrev main_v31 : Ref sig .tc := ⟨.hbm, 59, rfl⟩
abbrev main_cst_3 : Ref sig .tc := ⟨.hbm, 60, rfl⟩
abbrev main_v32 : Ref sig .tc := ⟨.hbm, 61, rfl⟩
abbrev main_v33 : Ref sig .tc := ⟨.hbm, 62, rfl⟩
abbrev main_cst_4 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_5 : Ref sig .tc := ⟨.hbm, 67, rfl⟩
abbrev main_v37 : Ref sig .tc := ⟨.hbm, 68, rfl⟩
abbrev main_v38 : Ref sig .tc := ⟨.hbm, 69, rfl⟩
abbrev main_cst_6 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_7 : Ref sig .tc := ⟨.hbm, 84, rfl⟩
abbrev main_v52 : Ref sig .tc := ⟨.hbm, 85, rfl⟩
abbrev main_v53 : Ref sig .tc := ⟨.hbm, 86, rfl⟩
abbrev main_cst_8 : Ref sig .tc := ⟨.hbm, 87, rfl⟩
abbrev main_v54 : Ref sig .tc := ⟨.hbm, 88, rfl⟩
abbrev main_v55 : Ref sig .tc := ⟨.hbm, 89, rfl⟩
abbrev main_cst_9 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_10 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_11 : Ref sig .tc := ⟨.hbm, 140, rfl⟩
abbrev main_v104 : Ref sig .tc := ⟨.hbm, 141, rfl⟩
abbrev main_v105 : Ref sig .tc := ⟨.hbm, 142, rfl⟩
abbrev main_cst_12 : Ref sig .tc := ⟨.hbm, 143, rfl⟩
abbrev main_v106 : Ref sig .tc := ⟨.hbm, 144, rfl⟩
abbrev main_v107 : Ref sig .tc := ⟨.hbm, 145, rfl⟩
abbrev main_cst_13 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_cst_14 : Ref sig .tc := ⟨.hbm, 195, rfl⟩
abbrev main_v156 : Ref sig .tc := ⟨.hbm, 196, rfl⟩
abbrev main_cst_15 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_cst_16 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩

abbrev nD : Nat := 1
abbrev τ : Topo := Topo.v7x

variable {F : FTy → Type} [FloatOps F]
-- ==== ProjA.lean ====
abbrev S4x4096x2048 : Shape := ⟨3, ![4, 4096, 2048]⟩
abbrev S2048x15744 : Shape := ⟨2, ![2048, 15744]⟩
abbrev S16384x2048 : Shape := ⟨2, ![16384, 2048]⟩
abbrev S2048x1536 : Shape := ⟨2, ![2048, 1536]⟩
abbrev S16384x1536 : Shape := ⟨2, ![16384, 1536]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x15744, .f32⟩
  | .hbm, ⟨2, _⟩ => ⟨S16384x2048, .f32⟩
  | .hbm, ⟨3, _⟩ => ⟨S16384x2048, .bf16⟩
  | .hbm, ⟨4, _⟩ => ⟨S2048x1536, .f32⟩
  | .hbm, ⟨5, _⟩ => ⟨S2048x1536, .bf16⟩
  | .hbm, ⟨6, _⟩ => ⟨S16384x1536, .f32⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjARefIdeal.lean ====
abbrev S4x4096x2048 : Shape := ⟨3, ![4, 4096, 2048]⟩
abbrev S2048x15744 : Shape := ⟨2, ![2048, 15744]⟩
abbrev S4x4096x15744 : Shape := ⟨3, ![4, 4096, 15744]⟩
abbrev S4x4096x1536 : Shape := ⟨3, ![4, 4096, 1536]⟩
abbrev S16384x1536 : Shape := ⟨2, ![16384, 1536]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x15744, .f32⟩
  | .hbm, ⟨2, _⟩ => ⟨S4x4096x15744, .f32⟩
  | .hbm, ⟨3, _⟩ => ⟨S4x4096x1536, .f32⟩
  | .hbm, ⟨4, _⟩ => ⟨S16384x1536, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjB.lean ====
abbrev S4x4096x2048 : Shape := ⟨3, ![4, 4096, 2048]⟩
abbrev S2048x15744 : Shape := ⟨2, ![2048, 15744]⟩
abbrev S16384x2048 : Shape := ⟨2, ![16384, 2048]⟩
abbrev S2048x3456 : Shape := ⟨2, ![2048, 3456]⟩
abbrev S16384x3456 : Shape := ⟨2, ![16384, 3456]⟩
abbrev S1024x2048 : Shape := ⟨2, ![1024, 2048]⟩
abbrev S2048x1152 : Shape := ⟨2, ![2048, 1152]⟩
abbrev S1024x1152 : Shape := ⟨2, ![1024, 1152]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x15744, .f32⟩
  | .hbm, ⟨2, _⟩ => ⟨S16384x2048, .f32⟩
  | .hbm, ⟨3, _⟩ => ⟨S16384x2048, .bf16⟩
  | .hbm, ⟨4, _⟩ => ⟨S2048x3456, .f32⟩
  | .hbm, ⟨5, _⟩ => ⟨S2048x3456, .bf16⟩
  | .hbm, ⟨6, _⟩ => ⟨S16384x3456, .f32⟩
  | .local _ .vmem, ⟨0, _⟩ => ⟨S1024x2048, .bf16⟩
  | .local _ .vmem, ⟨1, _⟩ => ⟨S1024x2048, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjBRefIdeal.lean ====
abbrev S4x4096x2048 : Shape := ⟨3, ![4, 4096, 2048]⟩
abbrev S2048x15744 : Shape := ⟨2, ![2048, 15744]⟩
abbrev S4x4096x15744 : Shape := ⟨3, ![4, 4096, 15744]⟩
abbrev S4x4096x3456 : Shape := ⟨3, ![4, 4096, 3456]⟩
abbrev S16384x3456 : Shape := ⟨2, ![16384, 3456]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x15744, .f32⟩
  | .hbm, ⟨2, _⟩ => ⟨S4x4096x15744, .f32⟩
  | .hbm, ⟨3, _⟩ => ⟨S4x4096x3456, .f32⟩
  | .hbm, ⟨4, _⟩ => ⟨S16384x3456, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjC.lean ====
abbrev S4x4096x2048 : Shape := ⟨3, ![4, 4096, 2048]⟩
abbrev S2048x15744 : Shape := ⟨2, ![2048, 15744]⟩
abbrev S16384x2048 : Shape := ⟨2, ![16384, 2048]⟩
abbrev S2048x4608 : Shape := ⟨2, ![2048, 4608]⟩
abbrev S16384x4608 : Shape := ⟨2, ![16384, 4608]⟩
abbrev S1024x2048 : Shape := ⟨2, ![1024, 2048]⟩
abbrev S2048x1152 : Shape := ⟨2, ![2048, 1152]⟩
abbrev S1024x1152 : Shape := ⟨2, ![1024, 1152]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x15744, .f32⟩
  | .hbm, ⟨2, _⟩ => ⟨S16384x2048, .f32⟩
  | .hbm, ⟨3, _⟩ => ⟨S16384x2048, .bf16⟩
  | .hbm, ⟨4, _⟩ => ⟨S2048x4608, .f32⟩
  | .hbm, ⟨5, _⟩ => ⟨S2048x4608, .bf16⟩
  | .hbm, ⟨6, _⟩ => ⟨S16384x4608, .f32⟩
  | .local _ .vmem, ⟨0, _⟩ => ⟨S1024x2048, .bf16⟩
  | .local _ .vmem, ⟨1, _⟩ => ⟨S1024x2048, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjCRefIdeal.lean ====
abbrev S4x4096x2048 : Shape := ⟨3, ![4, 4096, 2048]⟩
abbrev S2048x15744 : Shape := ⟨2, ![2048, 15744]⟩
abbrev S4x4096x15744 : Shape := ⟨3, ![4, 4096, 15744]⟩
abbrev S4x4096x4608 : Shape := ⟨3, ![4, 4096, 4608]⟩
abbrev S16384x4608 : Shape := ⟨2, ![16384, 4608]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x15744, .f32⟩
  | .hbm, ⟨2, _⟩ => ⟨S4x4096x15744, .f32⟩
  | .hbm, ⟨3, _⟩ => ⟨S4x4096x4608, .f32⟩
  | .hbm, ⟨4, _⟩ => ⟨S16384x4608, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjG.lean ====
abbrev S4x4096x2048 : Shape := ⟨3, ![4, 4096, 2048]⟩
abbrev S2048x15744 : Shape := ⟨2, ![2048, 15744]⟩
abbrev S16384x2048 : Shape := ⟨2, ![16384, 2048]⟩
abbrev S2048x6144 : Shape := ⟨2, ![2048, 6144]⟩
abbrev S16384x6144 : Shape := ⟨2, ![16384, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x15744, .f32⟩
  | .hbm, ⟨2, _⟩ => ⟨S16384x2048, .f32⟩
  | .hbm, ⟨3, _⟩ => ⟨S16384x2048, .bf16⟩
  | .hbm, ⟨4, _⟩ => ⟨S2048x6144, .f32⟩
  | .hbm, ⟨5, _⟩ => ⟨S2048x6144, .bf16⟩
  | .hbm, ⟨6, _⟩ => ⟨S16384x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjGRefIdeal.lean ====
abbrev S4x4096x2048 : Shape := ⟨3, ![4, 4096, 2048]⟩
abbrev S2048x15744 : Shape := ⟨2, ![2048, 15744]⟩
abbrev S4x4096x15744 : Shape := ⟨3, ![4, 4096, 15744]⟩
abbrev S4x4096x6144 : Shape := ⟨3, ![4, 4096, 6144]⟩
abbrev S16384x6144 : Shape := ⟨2, ![16384, 6144]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x15744, .f32⟩
  | .hbm, ⟨2, _⟩ => ⟨S4x4096x15744, .f32⟩
  | .hbm, ⟨3, _⟩ => ⟨S4x4096x6144, .f32⟩
  | .hbm, ⟨4, _⟩ => ⟨S16384x6144, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S16384x6144 : Shape := ⟨2, ![16384, 6144]⟩
abbrev S2560x2048 : Shape := ⟨2, ![2560, 2048]⟩
abbrev S1024x2048 : Shape := ⟨2, ![1024, 2048]⟩
abbrev S512x2048 : Shape := ⟨2, ![512, 2048]⟩
abbrev S16384x2048 : Shape := ⟨2, ![16384, 2048]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 10
  | .vmem => 20
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x512, .bf16⟩
  | .hbm, ⟨3, _⟩ => ⟨S16384x6144, .f32⟩
  | .hbm, ⟨4, _⟩ => ⟨S2560x2048, .f32⟩
  | .hbm, ⟨5, _⟩ => ⟨S2560x2048, .bf16⟩
  | .hbm, ⟨6, _⟩ => ⟨S1024x2048, .bf16⟩
  | .hbm, ⟨7, _⟩ => ⟨S1024x2048, .bf16⟩
  | .hbm, ⟨8, _⟩ => ⟨S512x2048, .bf16⟩
  | .hbm, ⟨9, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S16384x1024 : Shape := ⟨2, ![16384, 1024]⟩
abbrev S16384x512 : Shape := ⟨2, ![16384, 512]⟩
abbrev S16384x6144 : Shape := ⟨2, ![16384, 6144]⟩
abbrev S2560x2048 : Shape := ⟨2, ![2560, 2048]⟩
abbrev S_ : Shape := ⟨0, ![]⟩
abbrev S16384x3x2048 : Shape := ⟨3, ![16384, 3, 2048]⟩
abbrev S16384x1x2048 : Shape := ⟨3, ![16384, 1, 2048]⟩
abbrev S16384x2048 : Shape := ⟨2, ![16384, 2048]⟩
abbrev S1024x2048 : Shape := ⟨2, ![1024, 2048]⟩
abbrev S512x2048 : Shape := ⟨2, ![512, 2048]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x512, .bf16⟩
  | .hbm, ⟨3, _⟩ => ⟨S16384x6144, .f32⟩
  | .hbm, ⟨4, _⟩ => ⟨S2560x2048, .f32⟩
  | .hbm, ⟨5, _⟩ => ⟨S16384x6144, .f32⟩
  | .hbm, ⟨6, _⟩ => ⟨S16384x6144, .f32⟩
  | .hbm, ⟨7, _⟩ => ⟨S_, .f32⟩
  | .hbm, ⟨8, _⟩ => ⟨S16384x6144, .f32⟩
  | .hbm, ⟨9, _⟩ => ⟨S16384x6144, .f32⟩
  | .hbm, ⟨10, _⟩ => ⟨S_, .f32⟩
  | .hbm, ⟨11, _⟩ => ⟨S16384x6144, .f32⟩
  | .hbm, ⟨12, _⟩ => ⟨S16384x6144, .f32⟩
  | .hbm, ⟨13, _⟩ => ⟨S16384x3x2048, .f32⟩
  | .hbm, ⟨14, _⟩ => ⟨S16384x1x2048, .f32⟩
  | .hbm, ⟨15, _⟩ => ⟨S16384x2048, .f32⟩
  | .hbm, ⟨16, _⟩ => ⟨S16384x1024, .f32⟩
  | .hbm, ⟨17, _⟩ => ⟨S1024x2048, .f32⟩
  | .hbm, ⟨18, _⟩ => ⟨S16384x2048, .f32⟩
  | .hbm, ⟨19, _⟩ => ⟨S16384x2048, .f32⟩
  | .hbm, ⟨20, _⟩ => ⟨S16384x1x2048, .f32⟩
  | .hbm, ⟨21, _⟩ => ⟨S16384x2048, .f32⟩
  | .hbm, ⟨22, _⟩ => ⟨S16384x1024, .f32⟩
  | .hbm, ⟨23, _⟩ => ⟨S1024x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x1x2048, .f32⟩
  | .hbm, ⟨28, _⟩ => ⟨S16384x2048, .f32⟩
  | .hbm, ⟨29, _⟩ => ⟨S16384x512, .f32⟩
  | .hbm, ⟨30, _⟩ => ⟨S512x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== OutProj.lean ====
abbrev S16384x2048 : Shape := ⟨2, ![16384, 2048]⟩
abbrev S2048x2048 : Shape := ⟨2, ![2048, 2048]⟩
abbrev S2048 : Shape := ⟨1, ![2048]⟩
abbrev S2048x8 : Shape := ⟨2, ![2048, 8]⟩
abbrev S8 : Shape := ⟨1, ![8]⟩
abbrev S2048x64 : Shape := ⟨2, ![2048, 64]⟩
abbrev S64 : Shape := ⟨1, ![64]⟩
abbrev S2048x72 : Shape := ⟨2, ![2048, 72]⟩
abbrev S_ : Shape := ⟨0, ![]⟩
abbrev S2048x128 : Shape := ⟨2, ![2048, 128]⟩
abbrev S72 : Shape := ⟨1, ![72]⟩
abbrev S128 : Shape := ⟨1, ![128]⟩
abbrev S1x128 : Shape := ⟨2, ![1, 128]⟩
abbrev S1x2048 : Shape := ⟨2, ![1, 2048]⟩
abbrev S16384x128 : Shape := ⟨2, ![16384, 128]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 24
  | .vmem => 15
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048x8, .f32⟩
  | .hbm, ⟨6, _⟩ => ⟨S8, .f32⟩
  | .hbm, ⟨7, _⟩ => ⟨S2048x64, .f32⟩
  | .hbm, ⟨8, _⟩ => ⟨S64, .f32⟩
  | .hbm, ⟨9, _⟩ => ⟨S2048x72, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S72, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S2048x2048, .bf16⟩
  | .hbm, ⟨19, _⟩ => ⟨S1x2048, .f32⟩
  | .hbm, ⟨20, _⟩ => ⟨S1x2048, .f32⟩
  | .hbm, ⟨21, _⟩ => ⟨S16384x2048, .f32⟩
  | .hbm, ⟨22, _⟩ => ⟨S16384x2048, .bf16⟩
  | .hbm, ⟨23, _⟩ => ⟨S16384x128, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S2048x128, .f32⟩
  | .local _ .vmem, ⟨8, _⟩ => ⟨S1x128, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x128, .f32⟩
  | .local _ .vmem, ⟨14, _⟩ => ⟨S256x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutProjRefIdeal.lean ====
abbrev S16384x2048 : Shape := ⟨2, ![16384, 2048]⟩
abbrev S2048x2048 : Shape := ⟨2, ![2048, 2048]⟩
abbrev S2048 : Shape := ⟨1, ![2048]⟩
abbrev S2048x8 : Shape := ⟨2, ![2048, 8]⟩
abbrev S8 : Shape := ⟨1, ![8]⟩
abbrev S2048x64 : Shape := ⟨2, ![2048, 64]⟩
abbrev S64 : Shape := ⟨1, ![64]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8 : Shape := ⟨2, ![16384, 8]⟩
abbrev S1x8 : Shape := ⟨2, ![1, 8]⟩
abbrev S16384x64 : Shape := ⟨2, ![16384, 64]⟩
abbrev S1x64 : Shape := ⟨2, ![1, 64]⟩
abbrev S16384x72 : Shape := ⟨2, ![16384, 72]⟩
abbrev S16384x128 : Shape := ⟨2, ![16384, 128]⟩

abbrev nBuf : Space → Nat
  | .hbm => 57
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048x8, .f32⟩
  | .hbm, ⟨6, _⟩ => ⟨S8, .f32⟩
  | .hbm, ⟨7, _⟩ => ⟨S2048x64, .f32⟩
  | .hbm, ⟨8, _⟩ => ⟨S64, .f32⟩
  | .hbm, ⟨9, _⟩ => ⟨S_, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x2048, .f32⟩
  | .hbm, ⟨37, _⟩ => ⟨S16384x2048, .f32⟩
  | .hbm, ⟨38, _⟩ => ⟨S1x2048, .f32⟩
  | .hbm, ⟨39, _⟩ => ⟨S16384x2048, .f32⟩
  | .hbm, ⟨40, _⟩ => ⟨S16384x2048, .f32⟩
  | .hbm, ⟨41, _⟩ => ⟨S1x2048, .f32⟩
  | .hbm, ⟨42, _⟩ => ⟨S16384x2048, .f32⟩
  | .hbm, ⟨43, _⟩ => ⟨S16384x2048, .f32⟩
  | .hbm, ⟨44, _⟩ => ⟨S16384x8, .f32⟩
  | .hbm, ⟨45, _⟩ => ⟨S1x8, .f32⟩
  | .hbm, ⟨46, _⟩ => ⟨S16384x8, .f32⟩
  | .hbm, ⟨47, _⟩ => ⟨S16384x8, .f32⟩
  | .hbm, ⟨48, _⟩ => ⟨S16384x64, .f32⟩
  | .hbm, ⟨49, _⟩ => ⟨S1x64, .f32⟩
  | .hbm, ⟨50, _⟩ => ⟨S16384x64, .f32⟩
  | .hbm, ⟨51, _⟩ => ⟨S16384x64, .f32⟩
  | .hbm, ⟨52, _⟩ => ⟨S16384x72, .f32⟩
  | .hbm, ⟨53, _⟩ => ⟨S16384x2048, .bf16⟩
  | .hbm, ⟨54, _⟩ => ⟨S_, .i32⟩
  | .hbm, ⟨55, _⟩ => ⟨S_, .f32⟩
  | .hbm, ⟨56, _⟩ => ⟨S16384x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c : Ref sig .tc := ⟨.hbm, 54, rfl⟩
abbrev main_call0_v0 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== Experts.lean ====
abbrev S49152x2048 : Shape := ⟨2, ![49152, 2048]⟩
abbrev S192 : Shape := ⟨1, ![192]⟩
abbrev S64x2048x384 : Shape := ⟨3, ![64, 2048, 384]⟩
abbrev S64x384x2048 : Shape := ⟨3, ![64, 384, 2048]⟩
abbrev S256x2048 : Shape := ⟨2, ![256, 2048]⟩
abbrev S1x2048x384 : Shape := ⟨3, ![1, 2048, 384]⟩
abbrev S1 : Shape := ⟨1, ![1]⟩
abbrev S1x384x2048 : Shape := ⟨3, ![1, 384, 2048]⟩
abbrev S2048x384 : Shape := ⟨2, ![2048, 384]⟩
abbrev S256x384 : Shape := ⟨2, ![256, 384]⟩
abbrev S384x2048 : Shape := ⟨2, ![384, 2048]⟩

abbrev nBuf : Space → Nat
  | .hbm => 5
  | .vmem => 10
  | .smem => 1
  | _ => 0

abbrev bufTy : (tb : Table) → Fin (tcTables nBuf tb) → BufTy
  | .hbm, ⟨0, _⟩ => ⟨S49152x2048, .bf16⟩
  | .hbm, ⟨1, _⟩ => ⟨S64x2048x384, .f32⟩
  | .hbm, ⟨2, _⟩ => ⟨S64x2048x384, .f32⟩
  | .hbm, ⟨3, _⟩ => ⟨S64x384x2048, .f32⟩
  | .hbm, ⟨4, _⟩ => ⟨S49152x2048, .f32⟩
  | .local _ .vmem, ⟨0, _⟩ => ⟨S256x2048, .bf16⟩
  | .local _ .vmem, ⟨1, _⟩ => ⟨S256x2048, .bf16⟩
  | .local _ .vmem, ⟨2, _⟩ => ⟨S1x2048x384, .f32⟩
  | .local _ .vmem, ⟨3, _⟩ => ⟨S1x2048x384, .f32⟩
  | .local _ .vmem, ⟨4, _⟩ => ⟨S1x2048x384, .f32⟩
  | .local _ .vmem, ⟨5, _⟩ => ⟨S1x2048x384, .f32⟩
  | .local _ .vmem, ⟨6, _⟩ => ⟨S1x384x2048, .f32⟩
  | .local _ .vmem, ⟨7, _⟩ => ⟨S1x384x2048, .f32⟩
  | .local _ .vmem, ⟨8, _⟩ => ⟨S256x2048, .f32⟩
  | .local _ .vmem, ⟨9, _⟩ => ⟨S256x2048, .f32⟩
  | .local _ .smem, ⟨0, _⟩ => ⟨S192, .i32⟩
  | _, _ => ⟨S49152x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![192], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S192.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S192) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S192.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S192) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S192.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S192) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x384x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S49152x2048 : Shape := ⟨2, ![49152, 2048]⟩
abbrev S192 : Shape := ⟨1, ![192]⟩
abbrev S64x2048x384 : Shape := ⟨3, ![64, 2048, 384]⟩
abbrev S64x384x2048 : Shape := ⟨3, ![64, 384, 2048]⟩
abbrev S192x256x2048 : Shape := ⟨3, ![192, 256, 2048]⟩
abbrev S_ : Shape := ⟨0, ![]⟩
abbrev S192x1 : Shape := ⟨2, ![192, 1]⟩
abbrev S192x2048x384 : Shape := ⟨3, ![192, 2048, 384]⟩
abbrev S192x256x384 : Shape := ⟨3, ![192, 256, 384]⟩
abbrev S192x384x2048 : Shape := ⟨3, ![192, 384, 2048]⟩

abbrev nBuf : Space → Nat
  | .hbm => 48
  | .vmem => 0
  | .smem => 0
  | _ => 0

abbrev bufTy : (tb : Table) → Fin (tcTables nBuf tb) → BufTy
  | .hbm, ⟨0, _⟩ => ⟨S49152x2048, .bf16⟩
  | .hbm, ⟨1, _⟩ => ⟨S192, .i32⟩
  | .hbm, ⟨2, _⟩ => ⟨S64x2048x384, .f32⟩
  | .hbm, ⟨3, _⟩ => ⟨S64x2048x384, .f32⟩
  | .hbm, ⟨4, _⟩ => ⟨S64x384x2048, .f32⟩
  | .hbm, ⟨5, _⟩ => ⟨S49152x2048, .f32⟩
  | .hbm, ⟨6, _⟩ => ⟨S192x256x2048, .f32⟩
  | .hbm, ⟨7, _⟩ => ⟨S_, .i32⟩
  | .hbm, ⟨8, _⟩ => ⟨S192, .i32⟩
  | .hbm, ⟨9, _⟩ => ⟨S192, .i1⟩
  | .hbm, ⟨10, _⟩ => ⟨S_, .i32⟩
  | .hbm, ⟨11, _⟩ => ⟨S192, .i32⟩
  | .hbm, ⟨12, _⟩ => ⟨S192, .i32⟩
  | .hbm, ⟨13, _⟩ => ⟨S192, .i32⟩
  | .hbm, ⟨14, _⟩ => ⟨S192x1, .i32⟩
  | .hbm, ⟨15, _⟩ => ⟨S192x2048x384, .f32⟩
  | .hbm, ⟨16, _⟩ => ⟨S192x256x384, .f32⟩
  | .hbm, ⟨17, _⟩ => ⟨S192x256x384, .f32⟩
  | .hbm, ⟨18, _⟩ => ⟨S192x256x384, .f32⟩
  | .hbm, ⟨19, _⟩ => ⟨S_, .f32⟩
  | .hbm, ⟨20, _⟩ => ⟨S192x256x384, .f32⟩
  | .hbm, ⟨21, _⟩ => ⟨S192x256x384, .f32⟩
  | .hbm, ⟨22, _⟩ => ⟨S_, .f32⟩
  | .hbm, ⟨23, _⟩ => ⟨S192x256x384, .f32⟩
  | .hbm, ⟨24, _⟩ => ⟨S192x256x384, .f32⟩
  | .hbm, ⟨25, _⟩ => ⟨S192x256x384, .f32⟩
  | .hbm, ⟨26, _⟩ => ⟨S_, .i32⟩
  | .hbm, ⟨27, _⟩ => ⟨S192, .i32⟩
  | .hbm, ⟨28, _⟩ => ⟨S192, .i1⟩
  | .hbm, ⟨29, _⟩ => ⟨S_, .i32⟩
  | .hbm, ⟨30, _⟩ => ⟨S192, .i32⟩
  | .hbm, ⟨31, _⟩ => ⟨S192, .i32⟩
  | .hbm, ⟨32, _⟩ => ⟨S192, .i32⟩
  | .hbm, ⟨33, _⟩ => ⟨S192x1, .i32⟩
  | .hbm, ⟨34, _⟩ => ⟨S192x2048x384, .f32⟩
  | .hbm, ⟨35, _⟩ => ⟨S192x256x384, .f32⟩
  | .hbm, ⟨36, _⟩ => ⟨S192x256x384, .f32⟩
  | .hbm, ⟨37, _⟩ => ⟨S_, .i32⟩
  | .hbm, ⟨38, _⟩ => ⟨S192, .i32⟩
  | .hbm, ⟨39, _⟩ => ⟨S192, .i1⟩
  | .hbm, ⟨40, _⟩ => ⟨S_, .i32⟩
  | .hbm, ⟨41, _⟩ => ⟨S192, .i32⟩
  | .hbm, ⟨42, _⟩ => ⟨S192, .i32⟩
  | .hbm, ⟨43, _⟩ => ⟨S192, .i32⟩
  | .hbm, ⟨44, _⟩ => ⟨S192x1, .i32⟩
  | .hbm, ⟨45, _⟩ => ⟨S192x384x2048, .f32⟩
  | .hbm, ⟨46, _⟩ => ⟨S192x256x2048, .f32⟩
  | .hbm, ⟨47, _⟩ => ⟨S49152x2048, .f32⟩
  | _, _ => ⟨S49152x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== Combine.lean ====
abbrev S16384x2048 : Shape := ⟨2, ![16384, 2048]⟩
abbrev S16384x2 : Shape := ⟨2, ![16384, 2]⟩
abbrev S2048 : Shape := ⟨1, ![2048]⟩
abbrev S_ : Shape := ⟨0, ![]⟩
abbrev S16384x128 : Shape := ⟨2, ![16384, 128]⟩
abbrev S1x2048 : Shape := ⟨2, ![1, 2048]⟩
abbrev S256x2048 : Shape := ⟨2, ![256, 2048]⟩
abbrev S256x128 : Shape := ⟨2, ![256, 128]⟩
abbrev S256x1 : Shape := ⟨2, ![256, 1]⟩
abbrev S256 : Shape := ⟨1, ![256]⟩

abbrev nBuf : Space → Nat
  | .hbm => 13
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S16384x2, .f32⟩
  | .hbm, ⟨4, _⟩ => ⟨S2048, .f32⟩
  | .hbm, ⟨5, _⟩ => ⟨S2048, .f32⟩
  | .hbm, ⟨6, _⟩ => ⟨S_, .i32⟩
  | .hbm, ⟨7, _⟩ => ⟨S_, .f32⟩
  | .hbm, ⟨8, _⟩ => ⟨S16384x128, .f32⟩
  | .hbm, ⟨9, _⟩ => ⟨S1x2048, .f32⟩
  | .hbm, ⟨10, _⟩ => ⟨S1x2048, .f32⟩
  | .hbm, ⟨11, _⟩ => ⟨S16384x2048, .f32⟩
  | .hbm, ⟨12, _⟩ => ⟨S16384x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x128, .f32⟩
  | .local _ .vmem, ⟨7, _⟩ => ⟨S256x128, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CombineRefIdeal.lean ====
abbrev S16384x2048 : Shape := ⟨2, ![16384, 2048]⟩
abbrev S16384x2 : Shape := ⟨2, ![16384, 2]⟩
abbrev S2048 : Shape := ⟨1, ![2048]⟩
abbrev S16384x1 : Shape := ⟨2, ![16384, 1]⟩
abbrev S_ : Shape := ⟨0, ![]⟩
abbrev S16384 : Shape := ⟨1, ![16384]⟩
abbrev S1x2048 : Shape := ⟨2, ![1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S16384x2, .f32⟩
  | .hbm, ⟨4, _⟩ => ⟨S2048, .f32⟩
  | .hbm, ⟨5, _⟩ => ⟨S2048, .f32⟩
  | .hbm, ⟨6, _⟩ => ⟨S16384x1, .f32⟩
  | .hbm, ⟨7, _⟩ => ⟨S16384x2048, .f32⟩
  | .hbm, ⟨8, _⟩ => ⟨S16384x2048, .f32⟩
  | .hbm, ⟨9, _⟩ => ⟨S16384x1, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x2048, .f32⟩
  | .hbm, ⟨33, _⟩ => ⟨S16384x2048, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x2048, .f32⟩
  | .hbm, ⟨39, _⟩ => ⟨S16384x2048, .f32⟩
  | .hbm, ⟨40, _⟩ => ⟨S1x2048, .f32⟩
  | .hbm, ⟨41, _⟩ => ⟨S16384x2048, .f32⟩
  | .hbm, ⟨42, _⟩ => ⟨S16384x2048, .f32⟩
  | .hbm, ⟨43, _⟩ => ⟨S1x2048, .f32⟩
  | .hbm, ⟨44, _⟩ => ⟨S16384x2048, .f32⟩
  | .hbm, ⟨45, _⟩ => ⟨S16384x2048, .f32⟩
  | .hbm, ⟨46, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proof.Softmax.lean ====
/- Softmax over extended reals. With finite scores the weights are positive real numbers, so dividing after the weighted sum
   is the same as weighting with the divided exponentials, whatever the values are. -/
module

public import Idealize.ShloMosaic.PureOps.Ideal

@[expose] public section

namespace Cert.Softmax

open Idealize.ShloMosaic

/-- An extended real that is a real number. -/
def Fin' (x : EReal) : Prop := ∃ r : ℝ, x = (r : EReal)

theorem Fin'.mul {x y : EReal} (hx : Fin' x) (hy : Fin' y) : Fin' (x * y) := by
  obtain ⟨a, rfl⟩ := hx; obtain ⟨b, rfl⟩ := hy; exact ⟨a * b, (EReal.coe_mul a b).symm⟩

theorem Fin'.add {x y : EReal} (hx : Fin' x) (hy : Fin' y) : Fin' (x + y) := by
  obtain ⟨a, rfl⟩ := hx; obtain ⟨b, rfl⟩ := hy; exact ⟨a + b, (EReal.coe_add a b).symm⟩

theorem Fin'.neg {x : EReal} (hx : Fin' x) : Fin' (-x) := by
  obtain ⟨a, rfl⟩ := hx; exact ⟨-a, (EReal.coe_neg a).symm⟩

theorem Fin'.zero : Fin' 0 := ⟨0, EReal.coe_zero.symm⟩

/-- A finite sum of real numbers, taken among the extended reals, is their real sum. -/
theorem sum_coe {n : ℕ} (f : Fin n → ℝ) : ∑ j, ((f j : ℝ) : EReal) = ((∑ j, f j : ℝ) : EReal) := by
  induction n with
  | zero => simp
  | succ n ih => rw [Fin.sum_univ_succ, Fin.sum_univ_succ, ih, EReal.coe_add]

theorem Fin'.sum {n : ℕ} {f : Fin n → EReal} (h : ∀ j, Fin' (f j)) : Fin' (∑ j, f j) := by
  choose r hr using h
  exact ⟨∑ j, r j, by rw [← sum_coe]; exact Finset.sum_congr rfl fun j _ => hr j⟩

/-- A factor that is a nonnegative real number moves into a sum of extended reals. -/
theorem sum_mul_coe {n : ℕ} (f : Fin n → EReal) (a : ℝ) (ha : 0 ≤ a) : (∑ j, f j) * (a : EReal) = ∑ j, f j * (a : EReal) := by
  induction n with
  | zero => simp
  | succ n ih =>
    rw [Fin.sum_univ_succ, Fin.sum_univ_succ,
      EReal.right_distrib_of_nonneg_of_ne_top (EReal.coe_nonneg.2 ha) (EReal.coe_ne_top a), ih]

/-- The largest of finitely many, at least one, real numbers is a real number. -/
theorem fold_max_real {n : ℕ} (s : Fin (n + 1) → EReal) (h : ∀ j, Fin' (s j)) : Fin' (Finset.univ.fold max ⊥ s) := by
  have h1 : Finset.univ.fold max ⊥ s < ⊤ := by
    rw [Finset.fold_max_lt]
    refine ⟨bot_lt_top, fun j _ => ?_⟩
    obtain ⟨r, hr⟩ := h j; rw [hr]; exact EReal.coe_lt_top r
  have h2 : ⊥ < Finset.univ.fold max ⊥ s := by
    have : s 0 ≤ Finset.univ.fold max ⊥ s := Finset.le_fold_max (s 0) |>.2 (Or.inr ⟨0, Finset.mem_univ _, le_rfl⟩)
    obtain ⟨r, hr⟩ := h 0
    exact lt_of_lt_of_le (by rw [hr]; exact EReal.bot_lt_coe r) this
  exact ⟨_, (EReal.coe_toReal h1.ne h2.ne').symm⟩

/-- THE SOFTMAX EQUATION: the weighted sum divided by the sum of the weights is the sum weighted by the divided weights. -/
theorem weighted {n : ℕ} (s : Fin (n + 1) → EReal) (hs : ∀ j, Fin' (s j)) (mx : EReal) (hm : Fin' mx)
    (v : Fin (n + 1) → EReal) :
    Ideal.div (∑ j, Ideal.exp (s j - mx) * v j) (∑ j, Ideal.exp (s j - mx))
      = ∑ j, v j * Ideal.div (Ideal.exp (s j - mx)) (∑ i, Ideal.exp (s i - mx)) := by
  choose r hr using hs
  obtain ⟨q, hq⟩ := hm
  have he : ∀ j, Ideal.exp (s j - mx) = ((Real.exp (r j - q) : ℝ) : EReal) := by
    intro j; rw [hr, hq, ← EReal.coe_sub]; rfl
  simp only [he]
  rw [sum_coe]
  have hl : 0 < ∑ j, Real.exp (r j - q) := Finset.sum_pos (fun j _ => Real.exp_pos _) ⟨0, Finset.mem_univ _⟩
  generalize hL : (∑ j, Real.exp (r j - q)) = l at hl
  have hd : ∀ x : EReal, Ideal.div x (l : EReal) = x * ((l⁻¹ : ℝ) : EReal) := by
    intro x
    unfold Ideal.div
    rw [if_neg (by exact_mod_cast hl.ne'), EReal.coe_inv]
  rw [hd, sum_mul_coe _ _ (inv_nonneg.2 hl.le)]
  refine Finset.sum_congr rfl fun j _ => ?_
  rw [hd, mul_right_comm, mul_comm]

end Cert.Softmax
-- ==== Proof.NormRope.lean ====
/- The root-mean-square norm of a head's row and the rotation of its quarters, over extended reals: with finite gains and
   finite rotation tables the rotated, normed row is finite, whatever the row holds. -/
module

public import proofs.«01_k».proof.Proof.Softmax

@[expose] public section

noncomputable section

namespace Cert.NormRope

open Idealize.ShloMosaic Cert.Softmax

/-- The word of 128 in single precision. -/
abbrev width : EReal := Ideal.ofBits .f32 0x43000000#32
/-- The word nearest to a millionth in single precision. -/
abbrev eps : EReal := Ideal.ofBits .f32 0x358637BD#32
/-- The word nearest to 128 to the power of minus one half in single precision. -/
abbrev scale : EReal := Ideal.ofBits .f32 0x3DB504F3#32

theorem width_eq : width = ((128 : ℝ) : EReal) := by
  simp [width, Ideal.ofBits, Ideal.ieee]; rw [← EReal.coe_mul]; norm_num

theorem eps_real : ∃ e : ℝ, 0 < e ∧ eps = (e : EReal) := by
  refine ⟨_, ?_, by simp [eps, Ideal.ofBits, Ideal.ieee]; rfl⟩
  norm_num

theorem scale_real : Fin' scale := by
  refine ⟨_, by simp [scale, Ideal.ofBits, Ideal.ieee]; rfl⟩

/-- The root-mean-square norm of a row, times a gain. -/
def rms (t g : Fin 128 → EReal) (d : Fin 128) : EReal :=
  t d * Ideal.rsqrt (Ideal.div (∑ k, t k * t k) width + eps) * g d

theorem sq_nonneg' (x : EReal) : 0 ≤ x * x := by
  induction x with
  | bot => rw [EReal.bot_mul_bot]; exact le_top
  | top => rw [EReal.top_mul_top]; exact le_top
  | coe r => rw [← EReal.coe_mul]; exact EReal.coe_nonneg.2 (mul_self_nonneg r)

/-- With a finite gain the normed row is finite: an infinite entry makes the mean infinite and the row zero. -/
theorem rms_real (t g : Fin 128 → EReal) (hg : ∀ d, Fin' (g d)) (d : Fin 128) : Fin' (rms t g d) := by
  unfold rms
  obtain ⟨e, he, hee⟩ := eps_real
  by_cases h : ∀ k, Fin' (t k)
  · choose r hr using h
    have h1 : ∑ k, t k * t k = ((∑ k, r k * r k : ℝ) : EReal) := by
      rw [← sum_coe]; exact Finset.sum_congr rfl fun k _ => by rw [hr, EReal.coe_mul]
    have h2 : Ideal.div (∑ k, t k * t k) width + eps = (((∑ k, r k * r k) * (128 : ℝ)⁻¹ + e : ℝ) : EReal) := by
      rw [h1, width_eq, hee]
      unfold Ideal.div
      rw [if_neg (by exact_mod_cast (by norm_num : (128 : ℝ) ≠ 0)), ← EReal.coe_inv, ← EReal.coe_mul, ← EReal.coe_add]
    have h3 : 0 < (∑ k, r k * r k) * (128 : ℝ)⁻¹ + e := by
      have : 0 ≤ ∑ k, r k * r k := Finset.sum_nonneg fun k _ => mul_self_nonneg _
      positivity
    rw [h2]
    refine Fin'.mul (Fin'.mul ⟨_, hr d⟩ ?_) (hg d)
    refine ⟨(Real.sqrt ((∑ k, r k * r k) * (128 : ℝ)⁻¹ + e))⁻¹, ?_⟩
    show (if _ < (0 : ℝ) then (⊥ : EReal) else _) = _
    rw [if_neg (not_lt.2 h3.le), if_neg h3.ne']
  · push Not at h
    obtain ⟨k, hk⟩ := h
    have h0 : t k * t k = ⊤ := by
      cases hx : t k with
      | bot => rw [EReal.bot_mul_bot]
      | top => rw [EReal.top_mul_top]
      | coe r => exact absurd ⟨r, hx⟩ hk
    have h1 : ∑ k, t k * t k = ⊤ := by
      refine top_le_iff.1 ?_
      rw [← h0]
      exact Finset.single_le_sum (f := fun k => t k * t k) (fun i _ => sq_nonneg' (t i)) (Finset.mem_univ k)
    have h2 : Ideal.div (∑ k, t k * t k) width + eps = ⊤ := by
      rw [h1, width_eq, hee]
      unfold Ideal.div
      rw [if_neg (by exact_mod_cast (by norm_num : (128 : ℝ) ≠ 0)), ← EReal.coe_inv, EReal.top_mul_coe_of_pos (by norm_num),
        EReal.top_add_coe]
    rw [h2, show Ideal.rsqrt ⊤ = 0 from rfl, mul_zero, zero_mul]
    exact Fin'.zero

/-- The lane a lane of a head is rotated with: the other quarter of the same half. -/
def partner (d : Fin 128) : Fin 128 :=
  if h : d.val % 64 < 32 then ⟨d.val + 32, by omega⟩ else ⟨d.val - 32, by omega⟩

/-- A row rotated by a row of cosines and a row of signed sines. -/
def rope (u c s : Fin 128 → EReal) (d : Fin 128) : EReal := u d * c d + u (partner d) * s d

theorem rope_real {u c s : Fin 128 → EReal} (hu : ∀ d, Fin' (u d)) (hc : ∀ d, Fin' (c d)) (hs : ∀ d, Fin' (s d)) (d : Fin 128) :
    Fin' (rope u c s d) :=
  ((hu d).mul (hc d)).add ((hu _).mul (hs d))

end Cert.NormRope
-- ==== Proof.Heads.lean ====
/- One head's attention at one query and one lane, as a function of the projected rows, the gains and the rotation tables. -/
module

public import Idealize.ShloMosaic.Lib.Pipeline.ValueKit
public import proofs.«01_k».proof.Proof.NormRope

@[expose] public section

noncomputable section

namespace Cert.Heads

open Idealize.ShloMosaic Cert.NormRope Cert.Softmax

/-- A query's score against every key. -/
def score (q : Fin 128 → EReal) (K : Fin 4096 → Fin 128 → EReal) (j : Fin 4096) : EReal := ∑ k, q k * K j k

/-- The values weighted by the exponentials of the scores, divided by the sum of the exponentials. -/
def attend (s v : Fin 4096 → EReal) : EReal :=
  Ideal.div (∑ j, Ideal.exp (s j - Finset.univ.fold max ⊥ s) * v j) (∑ j, Ideal.exp (s j - Finset.univ.fold max ⊥ s))

/-- The projected rows: queries of eight heads, keys of two, values of two. -/
abbrev Rows := FVec Ideal ⟨2, ![16384, 1536]⟩ .f32
/-- A gain. -/
abbrev Gain := FVec Ideal ⟨1, ![128]⟩ .f32
/-- A rotation table: a row of lanes for each position. -/
abbrev Rot := Fin 4096 → Fin 128 → EReal

/-- The query of token `R` and head `h`, normed, rotated and scaled. -/
def query (P : Rows) (g : Gain) (C S : Rot) (R : Fin 16384) (h : Fin 8) (k : Fin 128) : EReal :=
  rope (rms (fun k => P (ix2 R ⟨h.val * 128 + k.val, by omega⟩)) (fun k => g (ix1 k)))
    (C ⟨R.val % 4096, by omega⟩) (S ⟨R.val % 4096, by omega⟩) k * scale

/-- The key of sequence `b`, head `h` and position `j`, normed and rotated. -/
def key (P : Rows) (g : Gain) (C S : Rot) (b : Fin 4) (h : Fin 2) (j : Fin 4096) (k : Fin 128) : EReal :=
  rope (rms (fun k => P (ix2 ⟨b.val * 4096 + j.val, by omega⟩ ⟨1024 + h.val * 128 + k.val, by omega⟩)) (fun k => g (ix1 k)))
    (C j) (S j) k

/-- The value of sequence `b`, head `h` and position `j`. -/
def value (P : Rows) (b : Fin 4) (h : Fin 2) (d : Fin 128) (j : Fin 4096) : EReal :=
  P (ix2 ⟨b.val * 4096 + j.val, by omega⟩ ⟨1280 + h.val * 128 + d.val, by omega⟩)

/-- Head `h`'s attention for token `R` at lane `d`. -/
def head (P : Rows) (gq gk : Gain) (C S : Rot) (R : Fin 16384) (h : Fin 8) (d : Fin 128) : EReal :=
  attend (score (query P gq C S R h) (key P gk C S ⟨R.val / 4096, by omega⟩ ⟨h.val / 4, by omega⟩))
    (value P ⟨R.val / 4096, by omega⟩ ⟨h.val / 4, by omega⟩ d)

/-- The attention's array: the heads side by side. -/
def heads (P : Rows) (gq gk : Gain) (C S : Rot) : FVec Ideal ⟨2, ![16384, 1024]⟩ .bf16 := fun i =>
  head P gq gk C S (i 0) ⟨(i 1).val / 128, by have h : (i 1).val < 1024 := (i 1).isLt; omega⟩
    ⟨(i 1).val % 128, Nat.mod_lt _ (by decide)⟩

end Cert.Heads
-- ==== Proof.Rows.lean ====
/- What the attention's body computes of one block, at an index: the normed and rotated keys it keeps, and the weighted sum of
   the values it stores. -/
module

public import Idealize.ShloMosaic.Lib.Pipeline.ValueKit
public import proofs.«01_k».proof.Proof.Heads
public import proofs.«01_k».proof.Proof.Gen.AttentionIdeal.Value

@[expose] public section

set_option maxRecDepth 16384

noncomputable section

open Idealize.ShloMosaic Idealize.ShloMosaic.TcCoe Idealize.SL.Sem
open Idealize.ShloMosaic.Pipeline (Dat)

namespace Cert.AttentionIdeal.Own

open Cert.AttentionIdeal Cert.AttentionIdeal.Gen Cert.NormRope Cert.Softmax Cert.Heads

/-- A row of a 4096-row block. -/
abbrev row (X : FVec Ideal S4096x128 .f32) (r : Fin 4096) : Fin 128 → EReal := fun k => X (ix2 r k)
/-- A row of a 256-row block. -/
abbrev qrow (X : FVec Ideal S256x128 .f32) (r : Fin 256) : Fin 128 → EReal := fun k => X (ix2 r k)
/-- The one row of a gain. -/
abbrev gain (G : FVec Ideal S1x128 .f32) : Fin 128 → EReal := fun k => G (ix2 0 k)

theorem pay4_at (K : FVec Ideal S4096x128 .f32) (G : FVec Ideal S1x128 .f32) (r : Fin 4096) (d : Fin 128) :
    k0_pay4 (F := Ideal) K G (ix2 r d) = rms (row K r) (gain G) d := by
  pointwise [k0_pay4, rms, row, gain]

theorem pay12_at (K : FVec Ideal S256x128 .f32) (G : FVec Ideal S1x128 .f32) (r : Fin 256) (d : Fin 128) :
    k0_pay12 (F := Ideal) K G (ix2 r d) = rms (qrow K r) (gain G) d := by
  pointwise [k0_pay12, rms, qrow, gain]

theorem pay5_at (r : Fin 4096) (d : Fin 128) : k0_pay5 (ix2 r d) = if d.val % 64 < 32 then 1#1 else 0#1 := by
  pointwise [k0_pay5]
  clear r
  revert d
  decide +kernel

theorem pay6_at (K : FVec Ideal S4096x128 .f32) (G : FVec Ideal S1x128 .f32) (r : Fin 4096) (d : Fin 128)
    (h : (d.val + 128 - 96) % 128 < 128) :
    k0_pay6 (F := Ideal) K G (ix2 r d) = rms (row K r) (gain G) ⟨(d.val + 128 - 96) % 128, h⟩ := by
  pointwise [k0_pay6]
  exact pay4_at K G r _

theorem pay7_at (K : FVec Ideal S4096x128 .f32) (G : FVec Ideal S1x128 .f32) (r : Fin 4096) (d : Fin 128)
    (h : (d.val + 128 - 32) % 128 < 128) :
    k0_pay7 (F := Ideal) K G (ix2 r d) = rms (row K r) (gain G) ⟨(d.val + 128 - 32) % 128, h⟩ := by
  pointwise [k0_pay7]
  exact pay4_at K G r _

/-- Choosing between the two rolled rows by the half's lane is taking the partner lane. -/
theorem rope_of_select (u c s : Fin 128 → EReal) (d : Fin 128) (h1 : (d.val + 128 - 96) % 128 < 128)
    (h2 : (d.val + 128 - 32) % 128 < 128) :
    u d * c d + Scalar.select (if d.val % 64 < 32 then 1#1 else 0#1) (u ⟨(d.val + 128 - 96) % 128, h1⟩)
      (u ⟨(d.val + 128 - 32) % 128, h2⟩) * s d = rope u c s d := by
  unfold rope partner
  have hd := d.isLt
  by_cases h : d.val % 64 < 32
  · rw [if_pos h, dif_pos h]
    show _ + u ⟨(d.val + 128 - 96) % 128, h1⟩ * _ = _
    congr 3
    exact Fin.ext (by show (d.val + 128 - 96) % 128 = d.val + 32; omega)
  · rw [if_neg h, dif_neg h]
    show _ + u ⟨(d.val + 128 - 32) % 128, h2⟩ * _ = _
    congr 3
    exact Fin.ext (by show (d.val + 128 - 32) % 128 = d.val - 32; omega)

/-- The keys the body keeps are the rotated, normed keys. -/
theorem keys_at (K C S : FVec Ideal S4096x128 .f32) (G : FVec Ideal S1x128 .f32) (r : Fin 4096) (d : Fin 128) :
    k0_pay8 (F := Ideal) (k0_pay2 C) (k0_pay3 S) (k0_pay4 K G) k0_pay5 (k0_pay6 K G) (k0_pay7 K G) (ix2 r d)
      = rope (rms (row K r) (gain G)) (row C r) (row S r) d := by
  have h1 : (d.val + 128 - 96) % 128 < 128 := Nat.mod_lt _ (by decide)
  have h2 : (d.val + 128 - 32) % 128 < 128 := Nat.mod_lt _ (by decide)
  pointwise [k0_pay8, k0_pay2, k0_pay3]
  rw [pay5_at, pay6_at K G r d h1, pay7_at K G r d h2, pay4_at]
  exact rope_of_select _ (row C r) (row S r) d h1 h2

/-- The values the body keeps are the values. -/
theorem vals_at (X : FVec Ideal S4096x128 .f32) (r : Fin 4096) (d : Fin 128) :
    k0_pay9 (F := Ideal) X (ix2 r d) = X (ix2 r d) := by
  pointwise [k0_pay9]

/-- The queries' lanes are chosen like the keys'. -/
theorem qmask_at (r : Fin 256) (d : Fin 128) :
    IntOp.cmpi CmpIPredicate.slt
      (Scalar.select (IntOp.andi (IntOp.xori (k0_pay15 (ix2 r d)) (k0_pay16 (ix2 r d))) (k0_pay14 (ix2 r d)))
        (IntOp.addi (k0_pay13 (ix2 r d)) (Scalar.select (Scalar.cmpi CmpIPredicate.eq 64#32 0#32) 1#32 64#32))
        (k0_pay13 (ix2 r d))) 32#32 = if d.val % 64 < 32 then 1#1 else 0#1 := by
  pointwise [k0_pay13, k0_pay14, k0_pay15, k0_pay16]
  clear r
  revert d
  decide +kernel

theorem minf_eq : Ideal.ofBits FTy.f32 4286578688#32 = ⊥ := by
  simp [Ideal.ofBits, Ideal.ieee]

/-- What the body stores at a query and a lane. -/
theorem pay1_at (Q C S : FVec Ideal S256x128 .f32) (G : FVec Ideal S1x128 .f32) (Kp Vp : FVec Ideal S4096x128 .bf16) (r : Fin 256) (d : Fin 128) :
    k0_pay1 (F := Ideal) (k0_pay10 C) (k0_pay11 S) (k0_pay12 Q G) (Scalar.select (Scalar.cmpi .eq 64#32 0#32) 1#32 64#32) k0_pay13 k0_pay14 k0_pay15 k0_pay16
        Kp Vp (ix2 r d)
      = attend (score (fun k => rope (rms (qrow Q r) (gain G)) (qrow C r) (qrow S r) k * scale) (fun j k => Kp (ix2 j k)))
          (fun j => Vp (ix2 j d)) := by
  pointwise [k0_pay1, k0_pay10, k0_pay11]
  simp only [qmask_at, pay12_at, minf_eq]
  have e : ∀ x : Fin 128, ∀ (h1 : (x.val + 128 - 96) % 128 < 128) (h2 : (x.val + 128 - 32) % 128 < 128),
      rms (qrow Q r) (gain G) x * C (ix2 r x) + Scalar.select (if x.val % 64 < 32 then 1#1 else 0#1)
        (rms (qrow Q r) (gain G) ⟨(x.val + 128 - 96) % 128, h1⟩) (rms (qrow Q r) (gain G) ⟨(x.val + 128 - 32) % 128, h2⟩)
          * S (ix2 r x) = rope (rms (qrow Q r) (gain G)) (qrow C r) (qrow S r) x :=
    fun x h1 h2 => rope_of_select _ (qrow C r) (qrow S r) x h1 h2
  simp only [e]
  rfl

end Cert.AttentionIdeal.Own
-- ==== Proof.Kept.lean ====
/- What the attention's launch reads of each array, and what it keeps between points: through the run of points of one sequence
   and one key head it holds that head's rotated keys and its values. -/
module

public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.AttentionIdeal.Own

open Cert.AttentionIdeal Cert.AttentionIdeal.Gen Cert.NormRope Cert.Softmax Cert.Heads

variable (m : (ℓ : Loc nD τ sig) → Buf (Elt Ideal) ℓ)

/-- The projected rows. -/
abbrev rowsOf (c : Dev nD) : Rows := m ((c : Thread nD τ).loc main_arg0)
/-- The queries' gain. -/
abbrev qGain (c : Dev nD) : Gain := m ((c : Thread nD τ).loc main_arg1)
/-- The keys' gain. -/
abbrev kGain (c : Dev nD) : Gain := m ((c : Thread nD τ).loc main_arg2)
/-- The cosines the launch reads. -/
abbrev cosT (c : Dev nD) : Rot := fun s l => (V m c main_v27 : FVec Ideal S4096x128 .f32) (ix2 s l)
/-- The signed sines the launch reads. -/
abbrev sinT (c : Dev nD) : Rot := fun s l => (V m c main_v34 : FVec Ideal S4096x128 .f32) (ix2 s l)

/-- The gains the launch reads are the arguments. -/
theorem qgain_eq (c : Dev nD) : V m c main_v35
    = (shapeCast S1x128 (m ((c : Thread nD τ).loc main_arg1) : FVec Ideal S128 .f32) shapeCasts_S128_S1x128 : FVec Ideal S1x128 .f32) := by
  dsimp only [V, List.flatten_cons, List.flatten_nil, List.append_nil, hostOps0, hostOps0_1, hostOps0_2, hostOps0_3, hostOps0_4,
    List.cons_append, List.nil_append]
  after_results; rfl

theorem kgain_eq (c : Dev nD) : V m c main_v36
    = (shapeCast S1x128 (m ((c : Thread nD τ).loc main_arg2) : FVec Ideal S128 .f32) shapeCasts_S128_S1x128 : FVec Ideal S1x128 .f32) := by
  dsimp only [V, List.flatten_cons, List.flatten_nil, List.append_nil, hostOps0, hostOps0_1, hostOps0_2, hostOps0_3, hostOps0_4,
    List.cons_append, List.nil_append]
  after_results; rfl

/-- Every point's block of each of the arrays. -/
theorem idx_at : ∀ t : Fin cfg0.N, (win0_0.index t = ![t.val / 128 * 16 + t.val % 16, t.val / 16 % 8]
      ∧ win0_1.index t = ![t.val / 128, 8 + t.val / 64 % 2] ∧ win0_2.index t = ![t.val / 128, 10 + t.val / 64 % 2])
    ∧ (win0_3.index t = ![t.val % 16, 0] ∧ win0_4.index t = ![t.val % 16, 0] ∧ win0_5.index t = ![0, 0] ∧ win0_6.index t = ![0, 0])
    ∧ (win0_7.index t = ![0, 0] ∧ win0_8.index t = ![0, 0] ∧ win0_9.index t = ![t.val / 128 * 16 + t.val % 16, t.val / 16 % 8]) :=
  (by decide +kernel : ∀ t : Fin grid0.N, (win0_0.index t = ![t.val / 128 * 16 + t.val % 16, t.val / 16 % 8]
      ∧ win0_1.index t = ![t.val / 128, 8 + t.val / 64 % 2] ∧ win0_2.index t = ![t.val / 128, 10 + t.val / 64 % 2])
    ∧ (win0_3.index t = ![t.val % 16, 0] ∧ win0_4.index t = ![t.val % 16, 0] ∧ win0_5.index t = ![0, 0] ∧ win0_6.index t = ![0, 0])
    ∧ (win0_7.index t = ![0, 0] ∧ win0_8.index t = ![0, 0] ∧ win0_9.index t = ![t.val / 128 * 16 + t.val % 16, t.val / 16 % 8]))

theorem read0 (c : Dev nD) (t : Fin cfg0.N) (r : Fin 256) (k : Fin 128) (h0 : t.val / 128 * 4096 + t.val % 16 * 256 + r.val < 16384)
    (h1 : t.val / 16 % 8 * 128 + k.val < 1536) :
    iblk m c 0 t (ix2 r k) = rowsOf m c (ix2 ⟨t.val / 128 * 4096 + t.val % 16 * 256 + r.val, h0⟩ ⟨t.val / 16 % 8 * 128 + k.val, h1⟩) := by
  have e : (win0_0.blk t).view.emb (ix2 r k)
      = (ix2 (⟨t.val / 128 * 4096 + t.val % 16 * 256 + r.val, h0⟩ : Fin 16384) (⟨t.val / 16 % 8 * 128 + k.val, h1⟩ : Fin 1536) : S16384x1536.Idx) := by
    blk_ext [idx_at t]
  blk_simp [iblk]
  rw [e]; exact congrFun (V_main_arg0 m c) _

theorem read1 (c : Dev nD) (t : Fin cfg0.N) (r : Fin 4096) (k : Fin 128) (h0 : t.val / 128 * 4096 + r.val < 16384)
    (h1 : 1024 + t.val / 64 % 2 * 128 + k.val < 1536) :
    iblk m c 1 t (ix2 r k) = rowsOf m c (ix2 ⟨t.val / 128 * 4096 + r.val, h0⟩ ⟨1024 + t.val / 64 % 2 * 128 + k.val, h1⟩) := by
  have e : (win0_1.blk t).view.emb (ix2 r k)
      = (ix2 (⟨t.val / 128 * 4096 + r.val, h0⟩ : Fin 16384) (⟨1024 + t.val / 64 % 2 * 128 + k.val, h1⟩ : Fin 1536) : S16384x1536.Idx) := by
    blk_ext [idx_at t]
  blk_simp [iblk]
  rw [e]; exact congrFun (V_main_arg0 m c) _

theorem read2 (c : Dev nD) (t : Fin cfg0.N) (r : Fin 4096) (k : Fin 128) (h0 : t.val / 128 * 4096 + r.val < 16384)
    (h1 : 1280 + t.val / 64 % 2 * 128 + k.val < 1536) :
    iblk m c 2 t (ix2 r k) = rowsOf m c (ix2 ⟨t.val / 128 * 4096 + r.val, h0⟩ ⟨1280 + t.val / 64 % 2 * 128 + k.val, h1⟩) := by
  have e : (win0_2.blk t).view.emb (ix2 r k)
      = (ix2 (⟨t.val / 128 * 4096 + r.val, h0⟩ : Fin 16384) (⟨1280 + t.val / 64 % 2 * 128 + k.val, h1⟩ : Fin 1536) : S16384x1536.Idx) := by
    blk_ext [idx_at t]
  blk_simp [iblk]
  rw [e]; exact congrFun (V_main_arg0 m c) _

theorem read3 (c : Dev nD) (t : Fin cfg0.N) (r : Fin 256) (k : Fin 128) (h0 : t.val % 16 * 256 + r.val < 4096) :
    iblk m c 3 t (ix2 r k) = cosT m c ⟨t.val % 16 * 256 + r.val, h0⟩ k := by
  have e : (win0_3.blk t).view.emb (ix2 r k) = (ix2 (⟨t.val % 16 * 256 + r.val, h0⟩ : Fin 4096) k : S4096x128.Idx) := by
    blk_ext [idx_at t]
  blk_simp [iblk]
  rw [e]

theorem read4 (c : Dev nD) (t : Fin cfg0.N) (r : Fin 256) (k : Fin 128) (h0 : t.val % 16 * 256 + r.val < 4096) :
    iblk m c 4 t (ix2 r k) = sinT m c ⟨t.val % 16 * 256 + r.val, h0⟩ k := by
  have e : (win0_4.blk t).view.emb (ix2 r k) = (ix2 (⟨t.val % 16 * 256 + r.val, h0⟩ : Fin 4096) k : S4096x128.Idx) := by
    blk_ext [idx_at t]
  blk_simp [iblk]
  rw [e]

theorem read5 (c : Dev nD) (t : Fin cfg0.N) (r : Fin 4096) (k : Fin 128) : iblk m c 5 t (ix2 r k) = cosT m c r k := by
  have e : (win0_5.blk t).view.emb (ix2 r k) = (ix2 r k : S4096x128.Idx) := by blk_ext [idx_at t]
  blk_simp [iblk]
  rw [e]

theorem read6 (c : Dev nD) (t : Fin cfg0.N) (r : Fin 4096) (k : Fin 128) : iblk m c 6 t (ix2 r k) = sinT m c r k := by
  have e : (win0_6.blk t).view.emb (ix2 r k) = (ix2 r k : S4096x128.Idx) := by blk_ext [idx_at t]
  blk_simp [iblk]
  rw [e]

theorem read7 (c : Dev nD) (t : Fin cfg0.N) (k : Fin 128) : iblk m c 7 t (ix2 0 k) = qGain m c (ix1 k) := by
  have e : (win0_7.blk t).view.emb (ix2 0 k) = (ix2 0 k : S1x128.Idx) := by blk_ext [idx_at t]
  blk_simp [iblk]
  rw [e, qgain_eq]
  pointwise

theorem read8 (c : Dev nD) (t : Fin cfg0.N) (k : Fin 128) : iblk m c 8 t (ix2 0 k) = kGain m c (ix1 k) := by
  have e : (win0_8.blk t).view.emb (ix2 0 k) = (ix2 0 k : S1x128.Idx) := by blk_ext [idx_at t]
  blk_simp [iblk]
  rw [e, kgain_eq]
  pointwise

/-- The keys a point stores are its sequence's and head's. -/
theorem stored_keys (c : Dev nD) (t : Fin cfg0.N) (j : Fin 4096) (k : Fin 128) (hb : t.val / 128 < 4) (hh : t.val / 64 % 2 < 2) :
    k0_pay8 (F := Ideal) (k0_pay2 (iblk m c 5 t)) (k0_pay3 (iblk m c 6 t)) (k0_pay4 (iblk m c 1 t) (iblk m c 8 t)) k0_pay5
        (k0_pay6 (iblk m c 1 t) (iblk m c 8 t)) (k0_pay7 (iblk m c 1 t) (iblk m c 8 t)) (ix2 j k)
      = key (rowsOf m c) (kGain m c) (cosT m c) (sinT m c) ⟨t.val / 128, hb⟩ ⟨t.val / 64 % 2, hh⟩ j k := by
  rw [keys_at]
  unfold key
  have e1 : row (iblk m c 1 t) j = fun k => rowsOf m c (ix2 ⟨t.val / 128 * 4096 + j.val, by omega⟩ ⟨1024 + t.val / 64 % 2 * 128 + k.val, by omega⟩) :=
    funext fun k => read1 m c t j k _ _
  have e2 : gain (iblk m c 8 t) = fun k => kGain m c (ix1 k) := funext fun k => read8 m c t k
  have e3 : row (iblk m c 5 t) j = cosT m c j := funext fun k => read5 m c t j k
  have e4 : row (iblk m c 6 t) j = sinT m c j := funext fun k => read6 m c t j k
  rw [e1, e2, e3, e4]

/-- What is kept after a point: the keys and the values of the point's sequence and head. -/
theorem kept (c : Dev nD) : ∀ (n : ℕ) (hn : n < cfg0.N) (hb : n / 128 < 4) (hh : n / 64 % 2 < 2),
    (∀ (j : Fin 4096) (k : Fin 128), (outsAt0 m c n hn).2.1 (ix2 j k)
        = key (rowsOf m c) (kGain m c) (cosT m c) (sinT m c) ⟨n / 128, hb⟩ ⟨n / 64 % 2, hh⟩ j k)
    ∧ (∀ (j : Fin 4096) (k : Fin 128), (outsAt0 m c n hn).2.2 (ix2 j k)
        = value (rowsOf m c) ⟨n / 128, hb⟩ ⟨n / 64 % 2, hh⟩ k j) := by
  intro n
  induction n with
  | zero =>
    intro hn hb hh
    have h := outsAt0_A m c ⟨0, hn⟩ rfl
    refine ⟨fun j k => ?_, fun j k => ?_⟩
    · rw [show outsAt0 m c 0 hn = _ from h]
      frame_out
      exact stored_keys m c ⟨0, hn⟩ j k hb hh
    · rw [show outsAt0 m c 0 hn = _ from h]
      frame_out
      rw [vals_at]
      exact read2 m c ⟨0, hn⟩ j k _ _
  | succ n ih =>
    intro hn hb hh
    by_cases h0 : (n + 1) % 64 = 0
    · have h := outsAt0_A m c ⟨n + 1, hn⟩ h0
      refine ⟨fun j k => ?_, fun j k => ?_⟩
      · rw [show outsAt0 m c (n + 1) hn = _ from h]
        frame_out
        exact stored_keys m c ⟨n + 1, hn⟩ j k hb hh
      · rw [show outsAt0 m c (n + 1) hn = _ from h]
        frame_out
        rw [vals_at]
        exact read2 m c ⟨n + 1, hn⟩ j k _ _
    · have h := outsAt0_B m c ⟨n + 1, hn⟩ h0
      have i := ih (by omega) (by omega) (by omega)
      have e1 : (⟨(n + 1) / 128, hb⟩ : Fin 4) = ⟨n / 128, by omega⟩ := Fin.ext (by show (n + 1) / 128 = n / 128; omega)
      have e2 : (⟨(n + 1) / 64 % 2, hh⟩ : Fin 2) = ⟨n / 64 % 2, by omega⟩ := Fin.ext (by show (n + 1) / 64 % 2 = n / 64 % 2; omega)
      rw [e1, e2]
      refine ⟨fun j k => ?_, fun j k => ?_⟩
      · rw [show outsAt0 m c (n + 1) hn = _ from h]
        exact i.1 j k
      · rw [show outsAt0 m c (n + 1) hn = _ from h]
        exact i.2 j k

end Cert.AttentionIdeal.Own
-- ==== Proof.Attended.lean ====
/- The array the attention's launch leaves: every head's attention, side by side. -/
module

public import proofs.«01_k».proof.Proof.Kept

@[expose] public section

set_option maxRecDepth 16384

noncomputable section

open Idealize.ShloMosaic Idealize.ShloMosaic.TcCoe Idealize.SL.Sem
open Idealize.ShloMosaic.Pipeline (Dat)

namespace Cert.AttentionIdeal.Own

open Cert.AttentionIdeal Cert.AttentionIdeal.Gen Cert.NormRope Cert.Softmax Cert.Heads

variable (m : (ℓ : Loc nD τ sig) → Buf (Elt Ideal) ℓ)

/-- The body over a point's blocks and the kept keys and values is the head's attention at the point's rows. -/
theorem stored (c : Dev nD) (t : Fin cfg0.N) (Kp Vp : FVec Ideal S4096x128 .bf16) (r : Fin 256) (d : Fin 128)
    (hb : t.val / 128 < 4) (hh : t.val / 64 % 2 < 2) (h8 : t.val / 16 % 8 < 8) (hR : t.val / 128 * 4096 + t.val % 16 * 256 + r.val < 16384)
    (hK : ∀ (j : Fin 4096) (k : Fin 128), Kp (ix2 j k) = key (rowsOf m c) (kGain m c) (cosT m c) (sinT m c) ⟨t.val / 128, hb⟩ ⟨t.val / 64 % 2, hh⟩ j k)
    (hV : ∀ (j : Fin 4096) (k : Fin 128), Vp (ix2 j k) = value (rowsOf m c) ⟨t.val / 128, hb⟩ ⟨t.val / 64 % 2, hh⟩ k j) :
    k0_pay1 (F := Ideal) (k0_pay10 (iblk m c 3 t)) (k0_pay11 (iblk m c 4 t)) (k0_pay12 (iblk m c 0 t) (iblk m c 7 t))
        (Scalar.select (Scalar.cmpi .eq 64#32 0#32) 1#32 64#32) k0_pay13 k0_pay14 k0_pay15 k0_pay16 Kp Vp (ix2 r d)
      = head (rowsOf m c) (qGain m c) (kGain m c) (cosT m c) (sinT m c) ⟨t.val / 128 * 4096 + t.val % 16 * 256 + r.val, hR⟩ ⟨t.val / 16 % 8, h8⟩ d := by
  rw [pay1_at]
  unfold head
  have e1 : qrow (iblk m c 0 t) r = fun k => rowsOf m c (ix2 ⟨t.val / 128 * 4096 + t.val % 16 * 256 + r.val, hR⟩ ⟨t.val / 16 % 8 * 128 + k.val, by omega⟩) :=
    funext fun k => read0 m c t r k _ _
  have e2 : gain (iblk m c 7 t) = fun k => qGain m c (ix1 k) := funext fun k => read7 m c t k
  have e3 : qrow (iblk m c 3 t) r = cosT m c ⟨t.val % 16 * 256 + r.val, by omega⟩ := funext fun k => read3 m c t r k _
  have e4 : qrow (iblk m c 4 t) r = sinT m c ⟨t.val % 16 * 256 + r.val, by omega⟩ := funext fun k => read4 m c t r k _
  have b1 : (⟨(t.val / 128 * 4096 + t.val % 16 * 256 + r.val) / 4096, by omega⟩ : Fin 4) = ⟨t.val / 128, hb⟩ :=
    Fin.ext (by show (t.val / 128 * 4096 + t.val % 16 * 256 + r.val) / 4096 = t.val / 128; omega)
  have b2 : (⟨(t.val / 128 * 4096 + t.val % 16 * 256 + r.val) % 4096, by omega⟩ : Fin 4096) = ⟨t.val % 16 * 256 + r.val, by omega⟩ :=
    Fin.ext (by show (t.val / 128 * 4096 + t.val % 16 * 256 + r.val) % 4096 = t.val % 16 * 256 + r.val; omega)
  have b3 : (⟨t.val / 16 % 8 / 4, by omega⟩ : Fin 2) = ⟨t.val / 64 % 2, hh⟩ :=
    Fin.ext (by show t.val / 16 % 8 / 4 = t.val / 64 % 2; omega)
  have q : query (rowsOf m c) (qGain m c) (cosT m c) (sinT m c) ⟨t.val / 128 * 4096 + t.val % 16 * 256 + r.val, hR⟩ ⟨t.val / 16 % 8, h8⟩
      = fun k => rope (rms (qrow (iblk m c 0 t) r) (gain (iblk m c 7 t))) (qrow (iblk m c 3 t) r) (qrow (iblk m c 4 t) r) k * scale := by
    funext k
    unfold query
    rw [e1, e2, e3, e4]
    simp only [b2]
  simp only [b1, b3, q, hK, hV]

/-- Every point leaves the head's attention at its rows. -/
theorem point (c : Dev nD) (t : Fin cfg0.N) (r : Fin 256) (d : Fin 128) (h8 : t.val / 16 % 8 < 8)
    (hR : t.val / 128 * 4096 + t.val % 16 * 256 + r.val < 16384) :
    (outsAt0 m c t.val t.isLt).1 (ix2 r d)
      = head (rowsOf m c) (qGain m c) (kGain m c) (cosT m c) (sinT m c) ⟨t.val / 128 * 4096 + t.val % 16 * 256 + r.val, hR⟩ ⟨t.val / 16 % 8, h8⟩ d := by
  have ht : t.val < 512 := t.isLt
  have hb : t.val / 128 < 4 := by omega
  have hh : t.val / 64 % 2 < 2 := by omega
  by_cases h0 : t.val % 64 = 0
  · rw [outsAt0_A m c t h0]
    frame_out
    refine stored m c t _ _ r d hb hh h8 hR (fun j k => stored_keys m c t j k hb hh) (fun j k => ?_)
    rw [vals_at]
    exact read2 m c t j k _ _
  · rw [outsAt0_B m c t h0]
    frame_out
    have i := kept m c (t.val - 1) (Nat.lt_of_le_of_lt (Nat.sub_le _ _) t.isLt) (by omega) (by omega)
    have e1 : (⟨t.val / 128, hb⟩ : Fin 4) = ⟨(t.val - 1) / 128, by omega⟩ := Fin.ext (by show t.val / 128 = (t.val - 1) / 128; omega)
    have e2 : (⟨t.val / 64 % 2, hh⟩ : Fin 2) = ⟨(t.val - 1) / 64 % 2, by omega⟩ := Fin.ext (by show t.val / 64 % 2 = (t.val - 1) / 64 % 2; omega)
    refine stored m c t _ _ r d hb hh h8 hR (fun j k => ?_) (fun j k => ?_)
    · rw [e1, e2]; exact (congrFun (Memref.IsWhole.read_unread (Memref.isWhole_whole _) _) _).trans (i.1 j k)
    · rw [e1, e2]; exact (congrFun (Memref.IsWhole.read_unread (Memref.isWhole_whole _) _) _).trans (i.2 j k)

/-- The array after the run is every head's attention. -/
theorem final (c : Dev nD) : (dats m 0 c).arrAt 9 cfg0.N
    = heads (rowsOf m c) (qGain m c) (kGain m c) (cosT m c) (sinT m c) := by
  refine (dats m 0 c).arrAt_eq_of_covers 9 _ (by decide +kernel) fun t _ y => ?_
  blk_simp
  rw [after0_9]
  idx_vars y
  have ht : t.val < 512 := t.isLt
  have e : ((View.whole main_v37).slice (win0_9.rect t)).emb (ix2 y0 y1)
      = (ix2 (⟨t.val / 128 * 4096 + t.val % 16 * 256 + y0.val, by omega⟩ : Fin 16384) (⟨t.val / 16 % 8 * 128 + y1.val, by omega⟩ : Fin 1024) : S16384x1024.Idx) := by
    blk_ext [idx_at t]
  rw [e]
  refine (point m c t y0 y1 (by omega) (by omega)).trans ?_
  unfold heads
  have a1 : (⟨t.val / 16 % 8, by omega⟩ : Fin 8) = ⟨(t.val / 16 % 8 * 128 + y1.val) / 128, by omega⟩ :=
    Fin.ext (by show t.val / 16 % 8 = (t.val / 16 % 8 * 128 + y1.val) / 128; omega)
  have a2 : y1 = ⟨(t.val / 16 % 8 * 128 + y1.val) % 128, by omega⟩ :=
    Fin.ext (by show y1.val = (t.val / 16 % 8 * 128 + y1.val) % 128; omega)
  rw [a1]
  exact congrArg _ a2

end Cert.AttentionIdeal.Own

end
-- ==== Proof.Tables.lean ====
/- The rotation's tables of cosines and of signed sines, which the host fills before the attention: what they hold,
   lane by lane, is the cosine and the sine of the reference's own angles, the first sine of each half negated. -/
module

public import proofs.«01_k».proof.Proof.Attended
public import proofs.«01_k».proof.Proof.Gen.AttentionRefIdeal.Read
public import Idealize.ShloMosaic.Lib.StableHlo.RunRead

@[expose] public section

set_option maxRecDepth 16384

noncomputable section

open Idealize.ShloMosaic Idealize.ShloMosaic.TcCoe Idealize.SL.Sem

namespace Cert.AttentionIdeal.Own

open Cert.AttentionIdeal Cert.AttentionIdeal.Gen Cert.NormRope Cert.Softmax Cert.Heads
open Cert.AttentionRefIdeal.Read

/-! ## The row of a position -/

/-- The host's floor division of each position by 64: the truncated quotient, one less where the signs differ and the
    remainder is not 0. -/
def floorRow : IVec S4096 32 :=
  select
    (andi (cmpi .ne (signi (iotaInDim S4096 32 0)) (broadcastInDim S4096 ![] bcast_S_S4096 (signi (constantI S_ 32 64#32))))
      (cmpi .ne (Host.remsi (iotaInDim S4096 32 0) (broadcastInDim S4096 ![] bcast_S_S4096 (constantI S_ 32 64#32)))
        (broadcastInDim S4096 ![] bcast_S_S4096 (constantI S_ 32 0#32))))
    (subi (Host.divsi (iotaInDim S4096 32 0) (broadcastInDim S4096 ![] bcast_S_S4096 (constantI S_ 32 64#32)))
      (broadcastInDim S4096 ![] bcast_S_S4096 (constantI S_ 32 1#32)))
    (Host.divsi (iotaInDim S4096 32 0) (broadcastInDim S4096 ![] bcast_S_S4096 (constantI S_ 32 64#32)))

/-- The floor division by 64 is the row which the reference counts for the position. -/
theorem floorRow_eq : floorRow = (val_main_v8 (F := Ideal) : IVec S4096 32) := by
  have h : ∀ s : Fin 4096, floorRow (ix1 s) = (val_main_v8 (F := Ideal) : IVec S4096 32) (ix1 s) := by
    intro s
    rw [val_main_v8_apply, val_main_v7_apply]
    revert s
    decide +kernel
  funext y
  idx_vars y
  exact h _

variable (m : (ℓ : Loc nD τ sig) → Buf (Elt Ideal) ℓ)

/-! ## The angles -/

/-- The row angles before the row is recognised. -/
theorem v17_eq (c : Dev nD) : V m c main_v17 = (mulf (broadcastInDim S4096x32 ![0, 1] bcast_S4096x1_S4096x32_0_1 (broadcastInDim S4096x1 ![0] bcast_S4096_S4096x1_0 (sitofp .f32 floorRow))) (val_main_v23 (F := Ideal)) : FVec Ideal S4096x32 .f32) := by
  dsimp only [V, List.flatten_cons, List.flatten_nil, List.append_nil, hostOps0, hostOps0_1, hostOps0_2, hostOps0_3, hostOps0_4, List.cons_append, List.nil_append]
  after_reads_simp
  rfl

/-- The row angles are the reference's. -/
theorem v17_ref (c : Dev nD) : V m c main_v17 = (val_main_v24 (F := Ideal) : FVec Ideal S4096x32 .f32) := by
  rw [v17_eq, floorRow_eq]
  rfl

/-- The column angles are the reference's. -/
theorem v24_eq (c : Dev nD) : V m c main_v24 = (val_main_v46 (F := Ideal) : FVec Ideal S4096x32 .f32) := by
  dsimp only [V, List.flatten_cons, List.flatten_nil, List.append_nil, hostOps0, hostOps0_1, hostOps0_2, hostOps0_3, hostOps0_4, List.cons_append, List.nil_append]
  after_reads_simp
  rfl

/-- The cosine of the row angles. -/
theorem v25_at (c : Dev nD) : V m c main_v25 = (Host.cos (V m c main_v17 : FVec Ideal S4096x32 .f32) : FVec Ideal S4096x32 .f32) := by
  dsimp only [V, List.flatten_cons, List.flatten_nil, List.append_nil, hostOps0, hostOps0_1, hostOps0_2, hostOps0_3, hostOps0_4, List.cons_append, List.nil_append]
  after_reads_simp

/-- The cosine of the column angles. -/
theorem v26_at (c : Dev nD) : V m c main_v26 = (Host.cos (V m c main_v24 : FVec Ideal S4096x32 .f32) : FVec Ideal S4096x32 .f32) := by
  dsimp only [V, List.flatten_cons, List.flatten_nil, List.append_nil, hostOps0, hostOps0_1, hostOps0_2, hostOps0_3, hostOps0_4, List.cons_append, List.nil_append]
  after_reads_simp

/-- The sine of the row angles. -/
theorem v28_at (c : Dev nD) : V m c main_v28 = (Host.sin (V m c main_v17 : FVec Ideal S4096x32 .f32) : FVec Ideal S4096x32 .f32) := by
  dsimp only [V, List.flatten_cons, List.flatten_nil, List.append_nil, hostOps0, hostOps0_1, hostOps0_2, hostOps0_3, hostOps0_4, List.cons_append, List.nil_append]
  after_reads_simp

/-- The sine of the row angles, once more. -/
theorem v30_at (c : Dev nD) : V m c main_v30 = (Host.sin (V m c main_v17 : FVec Ideal S4096x32 .f32) : FVec Ideal S4096x32 .f32) := by
  dsimp only [V, List.flatten_cons, List.flatten_nil, List.append_nil, hostOps0, hostOps0_1, hostOps0_2, hostOps0_3, hostOps0_4, List.cons_append, List.nil_append]
  after_reads_simp

/-- The sine of the column angles. -/
theorem v31_at (c : Dev nD) : V m c main_v31 = (Host.sin (V m c main_v24 : FVec Ideal S4096x32 .f32) : FVec Ideal S4096x32 .f32) := by
  dsimp only [V, List.flatten_cons, List.flatten_nil, List.append_nil, hostOps0, hostOps0_1, hostOps0_2, hostOps0_3, hostOps0_4, List.cons_append, List.nil_append]
  after_reads_simp

/-- The sine of the column angles, once more. -/
theorem v33_at (c : Dev nD) : V m c main_v33 = (Host.sin (V m c main_v24 : FVec Ideal S4096x32 .f32) : FVec Ideal S4096x32 .f32) := by
  dsimp only [V, List.flatten_cons, List.flatten_nil, List.append_nil, hostOps0, hostOps0_1, hostOps0_2, hostOps0_3, hostOps0_4, List.cons_append, List.nil_append]
  after_reads_simp

/-- The negated row sines. -/
theorem v29_at (c : Dev nD) : V m c main_v29 = (Host.negf (V m c main_v28 : FVec Ideal S4096x32 .f32) : FVec Ideal S4096x32 .f32) := by
  dsimp only [V, List.flatten_cons, List.flatten_nil, List.append_nil, hostOps0, hostOps0_1, hostOps0_2, hostOps0_3, hostOps0_4, List.cons_append, List.nil_append]
  after_reads_simp

/-- The negated column sines. -/
theorem v32_at (c : Dev nD) : V m c main_v32 = (Host.negf (V m c main_v31 : FVec Ideal S4096x32 .f32) : FVec Ideal S4096x32 .f32) := by
  dsimp only [V, List.flatten_cons, List.flatten_nil, List.append_nil, hostOps0, hostOps0_1, hostOps0_2, hostOps0_3, hostOps0_4, List.cons_append, List.nil_append]
  after_reads_simp

/-- The cosine table is its four parts side by side. -/
theorem v27_parts (c : Dev nD) : V m c main_v27
    = concatenate S4096x128 1 [⟨S4096x32, (V m c main_v25 : FVec Ideal S4096x32 .f32)⟩, ⟨S4096x32, (V m c main_v25 : FVec Ideal S4096x32 .f32)⟩, ⟨S4096x32, (V m c main_v26 : FVec Ideal S4096x32 .f32)⟩, ⟨S4096x32, (V m c main_v26 : FVec Ideal S4096x32 .f32)⟩]
      concatenates_S4096x32_S4096x32_S4096x32_S4096x32_S4096x128_d1 := by
  have e : ∀ u, StableHlo.after (List.flatten [hostOps0, hostOps0_1, hostOps0_2, hostOps0_3, hostOps0_4] : List (HloOp τ sig (Elt Ideal))) u (Proc.devRef .tc main_v27)
      = (StableHlo.nary ![main_v25, main_v25, main_v26, main_v26] main_v27 (fun u => (concatenate S4096x128 1 [⟨S4096x32, (u 0 : (⟨S4096x32, .f32⟩ : BufTy).Contents (Elt Ideal))⟩, ⟨S4096x32, (u 1 : (⟨S4096x32, .f32⟩ : BufTy).Contents (Elt Ideal))⟩, ⟨S4096x32, (u 2 : (⟨S4096x32, .f32⟩ : BufTy).Contents (Elt Ideal))⟩, ⟨S4096x32, (u 3 : (⟨S4096x32, .f32⟩ : BufTy).Contents (Elt Ideal))⟩] concatenates_S4096x32_S4096x32_S4096x32_S4096x32_S4096x128_d1 : (⟨S4096x128, .f32⟩ : BufTy).Contents (Elt Ideal)))).result (StableHlo.upto (List.flatten [hostOps0, hostOps0_1, hostOps0_2, hostOps0_3, hostOps0_4] : List (HloOp τ sig (Elt Ideal))) u 69) (Proc.devRef .tc main_v27) :=
    fun u => StableHlo.after_last_write [main_v28, main_v29, main_v30, main_v31, main_v32, main_v33, main_v34, main_v35, main_v36] rfl rfl (by decide) u
  refine (e _).trans ?_
  have e0 : ∀ u, StableHlo.upto (List.flatten [hostOps0, hostOps0_1, hostOps0_2, hostOps0_3, hostOps0_4] : List (HloOp τ sig (Elt Ideal))) u 69 (Proc.devRef .tc main_v25)
      = StableHlo.after (List.flatten [hostOps0, hostOps0_1, hostOps0_2, hostOps0_3, hostOps0_4] : List (HloOp τ sig (Elt Ideal))) u (Proc.devRef .tc main_v25) := by
    intro u
    dsimp only [V, List.flatten_cons, List.flatten_nil, List.append_nil, hostOps0, hostOps0_1, hostOps0_2, hostOps0_3, hostOps0_4, List.cons_append, List.nil_append]
    after_reads_simp
  have e1 : ∀ u, StableHlo.upto (List.flatten [hostOps0, hostOps0_1, hostOps0_2, hostOps0_3, hostOps0_4] : List (HloOp τ sig (Elt Ideal))) u 69 (Proc.devRef .tc main_v26)
      = StableHlo.after (List.flatten [hostOps0, hostOps0_1, hostOps0_2, hostOps0_3, hostOps0_4] : List (HloOp τ sig (Elt Ideal))) u (Proc.devRef .tc main_v26) := by
    intro u
    dsimp only [V, List.flatten_cons, List.flatten_nil, List.append_nil, hostOps0, hostOps0_1, hostOps0_2, hostOps0_3, hostOps0_4, List.cons_append, List.nil_append]
    after_reads_simp
  rw [StableHlo.nary_result']
  show concatenate S4096x128 1 [⟨S4096x32, (StableHlo.upto (List.flatten [hostOps0, hostOps0_1, hostOps0_2, hostOps0_3, hostOps0_4] : List (HloOp τ sig (Elt Ideal))) _ 69 (Proc.devRef .tc main_v25) : FVec Ideal S4096x32 .f32)⟩, ⟨S4096x32, (StableHlo.upto (List.flatten [hostOps0, hostOps0_1, hostOps0_2, hostOps0_3, hostOps0_4] : List (HloOp τ sig (Elt Ideal))) _ 69 (Proc.devRef .tc main_v25) : FVec Ideal S4096x32 .f32)⟩, ⟨S4096x32, (StableHlo.upto (List.flatten [hostOps0, hostOps0_1, hostOps0_2, hostOps0_3, hostOps0_4] : List (HloOp τ sig (Elt Ideal))) _ 69 (Proc.devRef .tc main_v26) : FVec Ideal S4096x32 .f32)⟩, ⟨S4096x32, (StableHlo.upto (List.flatten [hostOps0, hostOps0_1, hostOps0_2, hostOps0_3, hostOps0_4] : List (HloOp τ sig (Elt Ideal))) _ 69 (Proc.devRef .tc main_v26) : FVec Ideal S4096x32 .f32)⟩]
      concatenates_S4096x32_S4096x32_S4096x32_S4096x32_S4096x128_d1 = _
  rw [e0, e1]

/-- The sine table is its four parts side by side. -/
theorem v34_parts (c : Dev nD) : V m c main_v34
    = concatenate S4096x128 1 [⟨S4096x32, (V m c main_v29 : FVec Ideal S4096x32 .f32)⟩, ⟨S4096x32, (V m c main_v30 : FVec Ideal S4096x32 .f32)⟩, ⟨S4096x32, (V m c main_v32 : FVec Ideal S4096x32 .f32)⟩, ⟨S4096x32, (V m c main_v33 : FVec Ideal S4096x32 .f32)⟩]
      concatenates_S4096x32_S4096x32_S4096x32_S4096x32_S4096x128_d1 := by
  have e : ∀ u, StableHlo.after (List.flatten [hostOps0, hostOps0_1, hostOps0_2, hostOps0_3, hostOps0_4] : List (HloOp τ sig (Elt Ideal))) u (Proc.devRef .tc main_v34)
      = (StableHlo.nary ![main_v29, main_v30, main_v32, main_v33] main_v34 (fun u => (concatenate S4096x128 1 [⟨S4096x32, (u 0 : (⟨S4096x32, .f32⟩ : BufTy).Contents (Elt Ideal))⟩, ⟨S4096x32, (u 1 : (⟨S4096x32, .f32⟩ : BufTy).Contents (Elt Ideal))⟩, ⟨S4096x32, (u 2 : (⟨S4096x32, .f32⟩ : BufTy).Contents (Elt Ideal))⟩, ⟨S4096x32, (u 3 : (⟨S4096x32, .f32⟩ : BufTy).Contents (Elt Ideal))⟩] concatenates_S4096x32_S4096x32_S4096x32_S4096x32_S4096x128_d1 : (⟨S4096x128, .f32⟩ : BufTy).Contents (Elt Ideal)))).result (StableHlo.upto (List.flatten [hostOps0, hostOps0_1, hostOps0_2, hostOps0_3, hostOps0_4] : List (HloOp τ sig (Elt Ideal))) u 76) (Proc.devRef .tc main_v34) :=
    fun u => StableHlo.after_last_write [main_v35, main_v36] rfl rfl (by decide) u
  refine (e _).trans ?_
  have e0 : ∀ u, StableHlo.upto (List.flatten [hostOps0, hostOps0_1, hostOps0_2, hostOps0_3, hostOps0_4] : List (HloOp τ sig (Elt Ideal))) u 76 (Proc.devRef .tc main_v29)
      = StableHlo.after (List.flatten [hostOps0, hostOps0_1, hostOps0_2, hostOps0_3, hostOps0_4] : List (HloOp τ sig (Elt Ideal))) u (Proc.devRef .tc main_v29) := by
    intro u
    dsimp only [V, List.flatten_cons, List.flatten_nil, List.append_nil, hostOps0, hostOps0_1, hostOps0_2, hostOps0_3, hostOps0_4, List.cons_append, List.nil_append]
    after_reads_simp
  have e1 : ∀ u, StableHlo.upto (List.flatten [hostOps0, hostOps0_1, hostOps0_2, hostOps0_3, hostOps0_4] : List (HloOp τ sig (Elt Ideal))) u 76 (Proc.devRef .tc main_v30)
      = StableHlo.after (List.flatten [hostOps0, hostOps0_1, hostOps0_2, hostOps0_3, hostOps0_4] : List (HloOp τ sig (Elt Ideal))) u (Proc.devRef .tc main_v30) := by
    intro u
    dsimp only [V, List.flatten_cons, List.flatten_nil, List.append_nil, hostOps0, hostOps0_1, hostOps0_2, hostOps0_3, hostOps0_4, List.cons_append, List.nil_append]
    after_reads_simp
  have e2 : ∀ u, StableHlo.upto (List.flatten [hostOps0, hostOps0_1, hostOps0_2, hostOps0_3, hostOps0_4] : List (HloOp τ sig (Elt Ideal))) u 76 (Proc.devRef .tc main_v32)
      = StableHlo.after (List.flatten [hostOps0, hostOps0_1, hostOps0_2, hostOps0_3, hostOps0_4] : List (HloOp τ sig (Elt Ideal))) u (Proc.devRef .tc main_v32) := by
    intro u
    dsimp only [V, List.flatten_cons, List.flatten_nil, List.append_nil, hostOps0, hostOps0_1, hostOps0_2, hostOps0_3, hostOps0_4, List.cons_append, List.nil_append]
    after_reads_simp
  have e3 : ∀ u, StableHlo.upto (List.flatten [hostOps0, hostOps0_1, hostOps0_2, hostOps0_3, hostOps0_4] : List (HloOp τ sig (Elt Ideal))) u 76 (Proc.devRef .tc main_v33)
      = StableHlo.after (List.flatten [hostOps0, hostOps0_1, hostOps0_2, hostOps0_3, hostOps0_4] : List (HloOp τ sig (Elt Ideal))) u (Proc.devRef .tc main_v33) := by
    intro u
    dsimp only [V, List.flatten_cons, List.flatten_nil, List.append_nil, hostOps0, hostOps0_1, hostOps0_2, hostOps0_3, hostOps0_4, List.cons_append, List.nil_append]
    after_reads_simp
  rw [StableHlo.nary_result']
  show concatenate S4096x128 1 [⟨S4096x32, (StableHlo.upto (List.flatten [hostOps0, hostOps0_1, hostOps0_2, hostOps0_3, hostOps0_4] : List (HloOp τ sig (Elt Ideal))) _ 76 (Proc.devRef .tc main_v29) : FVec Ideal S4096x32 .f32)⟩, ⟨S4096x32, (StableHlo.upto (List.flatten [hostOps0, hostOps0_1, hostOps0_2, hostOps0_3, hostOps0_4] : List (HloOp τ sig (Elt Ideal))) _ 76 (Proc.devRef .tc main_v30) : FVec Ideal S4096x32 .f32)⟩, ⟨S4096x32, (StableHlo.upto (List.flatten [hostOps0, hostOps0_1, hostOps0_2, hostOps0_3, hostOps0_4] : List (HloOp τ sig (Elt Ideal))) _ 76 (Proc.devRef .tc main_v32) : FVec Ideal S4096x32 .f32)⟩, ⟨S4096x32, (StableHlo.upto (List.flatten [hostOps0, hostOps0_1, hostOps0_2, hostOps0_3, hostOps0_4] : List (HloOp τ sig (Elt Ideal))) _ 76 (Proc.devRef .tc main_v33) : FVec Ideal S4096x32 .f32)⟩]
      concatenates_S4096x32_S4096x32_S4096x32_S4096x32_S4096x128_d1 = _
  rw [e0, e1, e2, e3]

/-! ## The tables -/

/-- The angle of a lane: a row angle in the first half of the lanes, a column angle in the second, of frequency lane mod 32. -/
def angle (s : Fin 4096) (l : Fin 128) : EReal :=
  if l.val < 64 then val_main_v24 (F := Ideal) (ix2 s ⟨l.val % 32, by omega⟩)
  else val_main_v46 (F := Ideal) (ix2 s ⟨l.val % 32, by omega⟩)

/-- The cosine of each lane's angle. -/
def rotCos : Rot := fun s l => FloatOps.hostUnary (F := Ideal) (φ := .f32) .cos (angle s l)

/-- The sine of each lane's angle, negated in the first 32 lanes of each half. -/
def rotSin : Rot := fun s l =>
  if l.val % 64 < 32 then - FloatOps.hostUnary (F := Ideal) (φ := .f32) .sin (angle s l)
  else FloatOps.hostUnary (F := Ideal) (φ := .f32) .sin (angle s l)

/-- Four runs of 32 lanes side by side, read at a lane. -/
theorem quarters (p q r u : Fin 32 → EReal) (l : Fin 128) :
    (if h : l.val < 32 then p ⟨l.val, h⟩ else if h : l.val - 32 < 32 then q ⟨l.val - 32, h⟩
      else if h : l.val - 32 - 32 < 32 then r ⟨l.val - 32 - 32, h⟩ else u ⟨l.val - 32 - 32 - 32, by omega⟩)
      = if l.val < 64 then (if l.val % 64 < 32 then p ⟨l.val % 32, by omega⟩ else q ⟨l.val % 32, by omega⟩)
        else (if l.val % 64 < 32 then r ⟨l.val % 32, by omega⟩ else u ⟨l.val % 32, by omega⟩) := by
  by_cases h1 : l.val < 32
  · rw [dif_pos h1, if_pos (by omega), if_pos (by omega)]; congr 1; ext; show l.val = l.val % 32; omega
  by_cases h2 : l.val < 64
  · rw [dif_neg h1, dif_pos (by omega), if_pos h2, if_neg (by omega)]; congr 1; ext; show l.val - 32 = l.val % 32; omega
  by_cases h3 : l.val < 96
  · rw [dif_neg h1, dif_neg (by omega), dif_pos (by omega), if_neg h2, if_pos (by omega)]; congr 1; ext
    show l.val - 32 - 32 = l.val % 32; omega
  · rw [dif_neg h1, dif_neg (by omega), dif_neg (by omega), if_neg h2, if_neg (by omega)]; congr 1; ext
    show l.val - 32 - 32 - 32 = l.val % 32; omega

/-- The cosine table holds the cosines. -/
theorem cosT_eq (c : Dev nD) : cosT m c = rotCos := by
  funext s l
  show (V m c main_v27 : FVec Ideal S4096x128 .f32) (ix2 s l) = _
  rw [v27_parts, v25_at, v26_at, v17_ref, v24_eq]
  pointwise [rotCos, angle]
  refine (quarters (fun j => Ideal.cos (val_main_v24 (F := Ideal) (ix2 s j))) (fun j => Ideal.cos (val_main_v24 (F := Ideal) (ix2 s j)))
    (fun j => Ideal.cos (val_main_v46 (F := Ideal) (ix2 s j))) (fun j => Ideal.cos (val_main_v46 (F := Ideal) (ix2 s j))) l).trans ?_
  split <;> split <;> rfl

/-- The sine table holds the signed sines. -/
theorem sinT_eq (c : Dev nD) : sinT m c = rotSin := by
  funext s l
  show (V m c main_v34 : FVec Ideal S4096x128 .f32) (ix2 s l) = _
  rw [v34_parts, v29_at, v32_at, v28_at, v30_at, v31_at, v33_at, v17_ref, v24_eq]
  pointwise [rotSin, angle]
  refine (quarters (fun j => - Ideal.sin (val_main_v24 (F := Ideal) (ix2 s j))) (fun j => Ideal.sin (val_main_v24 (F := Ideal) (ix2 s j)))
    (fun j => - Ideal.sin (val_main_v46 (F := Ideal) (ix2 s j))) (fun j => Ideal.sin (val_main_v46 (F := Ideal) (ix2 s j))) l).trans ?_
  split <;> split <;> rfl

/-! ## The tables are real -/

/-- A frequency is a real: a real power of ten thousand. -/
theorem freq_real (j : Fin 32) : Fin' (val_main_v18 (F := Ideal) (ix1 j)) := by
  have h0 : Ideal.ofBits .f32 0x00000000#32 = ((0 : ℝ) : EReal) := by simp [Ideal.ofBits, Ideal.ieee]
  have h2 : Ideal.ofBits .f32 0x40000000#32 = ((2 : ℝ) : EReal) := by simp [Ideal.ofBits, Ideal.ieee, -EReal.coe_mul]; norm_num
  have h64 : Ideal.ofBits .f32 0x42800000#32 = ((64 : ℝ) : EReal) := by simp [Ideal.ofBits, Ideal.ieee, -EReal.coe_mul]; norm_num
  obtain ⟨t, ht⟩ : Fin' (Ideal.ofBits .f32 0x461C4000#32) := ⟨_, by simp [Ideal.ofBits, Ideal.ieee, -EReal.coe_mul]; rfl⟩
  rw [val_main_v18_apply, val_main_v17_apply, val_main_v16_apply, val_main_v15_apply, val_main_v14_apply, val_main_v13_apply,
    val_main_v12_apply, val_main_v11_apply, val_main_v10_apply]
  obtain ⟨w, hw⟩ : Fin' (val_main_v9 (F := Ideal) (ix1 j)) := ⟨_, rfl⟩
  rw [hw]
  show Fin' (Ideal.pow (Ideal.ofBits .f32 0x461C4000#32)
    (Ideal.div (-(Ideal.ofBits .f32 0x00000000#32 + Ideal.ofBits .f32 0x40000000#32 * (w : EReal))) (Ideal.ofBits .f32 0x42800000#32)))
  obtain ⟨p, hp⟩ : Fin' (Ideal.div (-(Ideal.ofBits .f32 0x00000000#32 + Ideal.ofBits .f32 0x40000000#32 * (w : EReal))) (Ideal.ofBits .f32 0x42800000#32)) := by
    rw [h64]
    unfold Ideal.div
    rw [if_neg (by exact_mod_cast (by norm_num : (64 : ℝ) ≠ 0)), ← EReal.coe_inv]
    exact Fin'.mul (Fin'.neg (Fin'.add ⟨_, h0⟩ (Fin'.mul ⟨_, h2⟩ ⟨_, rfl⟩))) ⟨_, rfl⟩
  rw [hp, ht]
  exact ⟨_, rfl⟩

/-- An angle is a real: a position times a frequency. -/
theorem angle_real (s : Fin 4096) (l : Fin 128) : Fin' (angle s l) := by
  unfold angle
  split
  · rw [val_main_v24_apply, val_main_v22_apply, val_main_v20_apply, val_main_v19_apply, val_main_v23_apply, val_main_v21_apply]
    exact Fin'.mul ⟨_, rfl⟩ (freq_real _)
  · rw [val_main_v46_apply, val_main_v44_apply, val_main_v42_apply, val_main_v41_apply, val_main_v45_apply, val_main_v43_apply]
    exact Fin'.mul ⟨_, rfl⟩ (freq_real _)

/-- A cosine of an angle is a real. -/
theorem rotCos_real (s : Fin 4096) (l : Fin 128) : Fin' (rotCos s l) := by
  obtain ⟨r, h⟩ := angle_real s l
  unfold rotCos
  rw [h]
  exact ⟨_, rfl⟩

/-- So is a signed sine. -/
theorem rotSin_real (s : Fin 4096) (l : Fin 128) : Fin' (rotSin s l) := by
  obtain ⟨r, h⟩ := angle_real s l
  unfold rotSin
  rw [h]
  split
  · exact Fin'.neg ⟨_, rfl⟩
  · exact ⟨_, rfl⟩

end Cert.AttentionIdeal.Own

end
-- ==== Proof.RefRows.lean ====
/- The reference's queries, keys and values, element by element: each head's row normed, rotated and, for a query, scaled. -/
module

public import proofs.«01_k».proof.Proof.Tables

@[expose] public section

set_option maxRecDepth 16384

noncomputable section

open Idealize.ShloMosaic Idealize.ShloMosaic.TcCoe Idealize.SL.Sem

namespace Cert.AttentionRefIdeal.Own

open Cert.AttentionRefIdeal Cert.AttentionRefIdeal.Read Cert.NormRope Cert.Softmax Cert.Heads
open Cert.AttentionIdeal.Own (rotCos rotSin angle)

variable (P : Rows) (gq gk : Gain)

/-! ## The rotation, written by quarters -/

/-- Two halves rotated by their own angles, each written as its two quarters, are the rotation by the signed tables. -/
theorem rope_quarters (u : Fin 128 → EReal) (s : Fin 4096) (k : Fin 128) :
    (if h1 : k.val < 64 then
        if h2 : k.val < 32 then
          u k * Ideal.cos (val_main_v24 (F := Ideal) (ix2 s ⟨k.val, h2⟩)) - u ⟨32 + k.val, by omega⟩ * Ideal.sin (val_main_v24 (F := Ideal) (ix2 s ⟨k.val, h2⟩))
        else
          u ⟨k.val - 32, by omega⟩ * Ideal.sin (val_main_v24 (F := Ideal) (ix2 s ⟨k.val - 32, by omega⟩))
            + u ⟨32 + (k.val - 32), by omega⟩ * Ideal.cos (val_main_v24 (F := Ideal) (ix2 s ⟨k.val - 32, by omega⟩))
      else
        if h2 : k.val - 64 < 32 then
          u ⟨64 + (k.val - 64), by omega⟩ * Ideal.cos (val_main_v46 (F := Ideal) (ix2 s ⟨k.val - 64, h2⟩))
            - u ⟨64 + (32 + (k.val - 64)), by omega⟩ * Ideal.sin (val_main_v46 (F := Ideal) (ix2 s ⟨k.val - 64, h2⟩))
        else
          u ⟨64 + (k.val - 64 - 32), by omega⟩ * Ideal.sin (val_main_v46 (F := Ideal) (ix2 s ⟨k.val - 64 - 32, by omega⟩))
            + u ⟨64 + (32 + (k.val - 64 - 32)), by omega⟩ * Ideal.cos (val_main_v46 (F := Ideal) (ix2 s ⟨k.val - 64 - 32, by omega⟩)))
      = rope u (rotCos s) (rotSin s) k := by
  unfold rope partner rotCos rotSin angle
  by_cases h1 : k.val < 64
  · by_cases h2 : k.val < 32
    · simp only [dif_pos h1, dif_pos h2, if_pos h1, if_pos (show k.val % 64 < 32 by omega), dif_pos (show k.val % 64 < 32 by omega)]
      have e : (⟨k.val % 32, by omega⟩ : Fin 32) = ⟨k.val, h2⟩ := Fin.ext (by show k.val % 32 = k.val; omega)
      have e2 : (⟨k.val + 32, by omega⟩ : Fin 128) = ⟨32 + k.val, by omega⟩ := Fin.ext (by show k.val + 32 = 32 + k.val; omega)
      rw [e, e2, sub_eq_add_neg, ← mul_neg]
      rfl
    · simp only [dif_pos h1, dif_neg h2, if_pos h1, if_neg (show ¬ k.val % 64 < 32 by omega), dif_neg (show ¬ k.val % 64 < 32 by omega)]
      have e : (⟨k.val % 32, by omega⟩ : Fin 32) = ⟨k.val - 32, by omega⟩ := Fin.ext (by show k.val % 32 = k.val - 32; omega)
      have e2 : (⟨32 + (k.val - 32), by omega⟩ : Fin 128) = k := Fin.ext (by show 32 + (k.val - 32) = k.val; omega)
      rw [e, e2, add_comm]
      rfl
  · by_cases h2 : k.val - 64 < 32
    · simp only [dif_neg h1, dif_pos h2, if_neg h1, if_pos (show k.val % 64 < 32 by omega), dif_pos (show k.val % 64 < 32 by omega)]
      have e : (⟨k.val % 32, by omega⟩ : Fin 32) = ⟨k.val - 64, h2⟩ := Fin.ext (by show k.val % 32 = k.val - 64; omega)
      have e2 : (⟨k.val + 32, by omega⟩ : Fin 128) = ⟨64 + (32 + (k.val - 64)), by omega⟩ :=
        Fin.ext (by show k.val + 32 = 64 + (32 + (k.val - 64)); omega)
      have e3 : (⟨64 + (k.val - 64), by omega⟩ : Fin 128) = k := Fin.ext (by show 64 + (k.val - 64) = k.val; omega)
      rw [e, e2, e3, sub_eq_add_neg, ← mul_neg]
      rfl
    · simp only [dif_neg h1, dif_neg h2, if_neg h1, if_neg (show ¬ k.val % 64 < 32 by omega), dif_neg (show ¬ k.val % 64 < 32 by omega)]
      have e : (⟨k.val % 32, by omega⟩ : Fin 32) = ⟨k.val - 64 - 32, by omega⟩ := Fin.ext (by show k.val % 32 = k.val - 64 - 32; omega)
      have e2 : (⟨64 + (32 + (k.val - 64 - 32)), by omega⟩ : Fin 128) = k :=
        Fin.ext (by show 64 + (32 + (k.val - 64 - 32)) = k.val; omega)
      have e3 : (⟨64 + (k.val - 64 - 32), by omega⟩ : Fin 128) = ⟨k.val - 32, by omega⟩ :=
        Fin.ext (by show 64 + (k.val - 64 - 32) = k.val - 32; omega)
      rw [e, e2, e3, add_comm]
      rfl

/-! ## Queries, keys and values -/

/-- The reference's queries, head by head. -/
theorem v1_at (b : Fin 4) (s : Fin 4096) (h : Fin 8) (k : Fin 128) :
    val_main_v1 (F := Ideal) P (ix4 b s h k) = P (ix2 ⟨b.val * 4096 + s.val, by omega⟩ ⟨h.val * 128 + k.val, by omega⟩) := by
  rw [val_main_v1_apply, val_main_v0_apply]
  refine congrArg P ?_
  funext a
  match a with
  | ⟨0, _⟩ => exact Fin.ext (by show (((b.val * 4096 + s.val) * 8 + h.val) * 128 + k.val) / 1024 = b.val * 4096 + s.val; omega)
  | ⟨1, _⟩ => exact Fin.ext (by show (((b.val * 4096 + s.val) * 8 + h.val) * 128 + k.val) % 1024 = h.val * 128 + k.val; omega)

/-- The reference's keys, head by head. -/
theorem v3_at (b : Fin 4) (s : Fin 4096) (h : Fin 2) (k : Fin 128) :
    val_main_v3 (F := Ideal) P (ix4 b s h k) = P (ix2 ⟨b.val * 4096 + s.val, by omega⟩ ⟨1024 + h.val * 128 + k.val, by omega⟩) := by
  rw [val_main_v3_apply, val_main_v2_apply]
  refine congrArg P ?_
  funext a
  match a with
  | ⟨0, _⟩ => exact Fin.ext (by show (((b.val * 4096 + s.val) * 2 + h.val) * 128 + k.val) / 256 = b.val * 4096 + s.val; omega)
  | ⟨1, _⟩ => exact Fin.ext (by show 1024 + (((b.val * 4096 + s.val) * 2 + h.val) * 128 + k.val) % 256 = 1024 + h.val * 128 + k.val; omega)

/-- The reference's values, head by head. -/
theorem v5_at (b : Fin 4) (s : Fin 4096) (h : Fin 2) (k : Fin 128) :
    val_main_v5 (F := Ideal) P (ix4 b s h k) = P (ix2 ⟨b.val * 4096 + s.val, by omega⟩ ⟨1280 + h.val * 128 + k.val, by omega⟩) := by
  rw [val_main_v5_apply, val_main_v4_apply]
  refine congrArg P ?_
  funext a
  match a with
  | ⟨0, _⟩ => exact Fin.ext (by show (((b.val * 4096 + s.val) * 2 + h.val) * 128 + k.val) / 256 = b.val * 4096 + s.val; omega)
  | ⟨1, _⟩ => exact Fin.ext (by show 1280 + (((b.val * 4096 + s.val) * 2 + h.val) * 128 + k.val) % 256 = 1280 + h.val * 128 + k.val; omega)

/-- The reference's normed queries. -/
theorem v63_at (b : Fin 4) (s : Fin 4096) (h : Fin 8) (k : Fin 128) :
    val_main_v63 (F := Ideal) P gq (ix4 b s h k)
      = rms (fun k => val_main_v1 (F := Ideal) P (ix4 b s h k)) (fun k => gq (ix1 k)) k := by
  pointwise [val_main_v63, val_main_v62, val_main_v61, val_main_v60, val_main_v59, val_main_v58, val_main_v57, val_main_v56, val_main_v55, val_main_v54, val_main_v53, val_main_v52, val_main_v51, val_main_cst_7, val_main_cst_8, val_main_cst_9, rms]

/-- The reference's normed keys. -/
theorem v115_at (b : Fin 4) (s : Fin 4096) (h : Fin 2) (k : Fin 128) :
    val_main_v115 (F := Ideal) P gk (ix4 b s h k)
      = rms (fun k => val_main_v3 (F := Ideal) P (ix4 b s h k)) (fun k => gk (ix1 k)) k := by
  pointwise [val_main_v115, val_main_v114, val_main_v113, val_main_v112, val_main_v111, val_main_v110, val_main_v109, val_main_v108, val_main_v107, val_main_v106, val_main_v105, val_main_v104, val_main_v103, val_main_cst_11, val_main_cst_12, val_main_cst_13, rms]

/-- The reference's rotated and scaled queries. -/
theorem v102_at (b : Fin 4) (s : Fin 4096) (h : Fin 8) (k : Fin 128) :
    val_main_v102 (F := Ideal) P gq (ix4 b s h k)
      = rope (fun d => val_main_v63 (F := Ideal) P gq (ix4 b s h d)) (rotCos s) (rotSin s) k * scale := by
  pointwise [val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_cst_10, val_main_v50, val_main_v49, val_main_v48, val_main_v47, val_main_v28, val_main_v27, val_main_v26, val_main_v25]
  exact congrArg (· * scale) (rope_quarters (fun d => val_main_v63 (F := Ideal) P gq (ix4 b s h d)) s k)

/-- The reference's rotated keys. -/
theorem v152_at (b : Fin 4) (s : Fin 4096) (h : Fin 2) (k : Fin 128) :
    val_main_v152 (F := Ideal) P gk (ix4 b s h k)
      = rope (fun d => val_main_v115 (F := Ideal) P gk (ix4 b s h d)) (rotCos s) (rotSin s) k := by
  pointwise [val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v50, val_main_v49, val_main_v48, val_main_v47, val_main_v28, val_main_v27, val_main_v26, val_main_v25]
  exact rope_quarters (fun d => val_main_v115 (F := Ideal) P gk (ix4 b s h d)) s k

/-- The queries by groups of four heads. -/
theorem v153_at (b : Fin 4) (s : Fin 4096) (n : Fin 2) (g : Fin 4) (k : Fin 128) :
    val_main_v153 (F := Ideal) P gq (ix5 b s n g k) = val_main_v102 (F := Ideal) P gq (ix4 b s ⟨n.val * 4 + g.val, by omega⟩ k) := by
  pointwise [val_main_v153]

/-- The reference's queries are the attention's. -/
theorem query_eq (R : Fin 16384) (h : Fin 8) (k : Fin 128) :
    val_main_v102 (F := Ideal) P gq (ix4 ⟨R.val / 4096, by omega⟩ ⟨R.val % 4096, by omega⟩ h k) = query P gq rotCos rotSin R h k := by
  rw [v102_at]
  unfold query
  refine congrArg (fun u => rope u _ _ k * scale) ?_
  funext d
  rw [v63_at]
  refine congrArg (fun t => rms t _ d) ?_
  funext e
  rw [v1_at]
  refine congrArg (fun r => P (ix2 r _)) (Fin.ext ?_)
  show R.val / 4096 * 4096 + R.val % 4096 = R.val
  omega

/-- The reference's keys are the attention's. -/
theorem key_eq (b : Fin 4) (j : Fin 4096) (n : Fin 2) (k : Fin 128) :
    val_main_v152 (F := Ideal) P gk (ix4 b j n k) = key P gk rotCos rotSin b n j k := by
  rw [v152_at]
  unfold key
  refine congrArg (fun u => rope u _ _ k) ?_
  funext d
  rw [v115_at]
  refine congrArg (fun t => rms t _ d) ?_
  funext e
  rw [v3_at]

/-- The reference's values are the attention's. -/
theorem value_eq (b : Fin 4) (j : Fin 4096) (n : Fin 2) (d : Fin 128) :
    val_main_v5 (F := Ideal) P (ix4 b j n d) = value P b n d j := v5_at P b j n d

end Cert.AttentionRefIdeal.Own

end
-- ==== Proof.RefHeads.lean ====
/- The reference's array, element by element: softmax of the scores, weighting the values. With finite gains every score is
   real, and the array is the attention's: the division by the sum of the exponentials moves into the weighted sum. -/
module

public import proofs.«01_k».proof.Proof.RefRows

@[expose] public section

set_option maxRecDepth 16384

noncomputable section

open Idealize.ShloMosaic Idealize.ShloMosaic.TcCoe Idealize.SL.Sem

namespace Cert.AttentionRefIdeal.Own

open Cert.AttentionRefIdeal Cert.AttentionRefIdeal.Read Cert.NormRope Cert.Softmax Cert.Heads
open Cert.AttentionIdeal.Own (rotCos rotSin rotCos_real rotSin_real minf_eq)

variable (P : Rows) (gq gk : Gain)

/-- The row of scores of token `R` and head `h`. -/
def scores (R : Fin 16384) (h : Fin 8) : Fin 4096 → EReal :=
  score (query P gq rotCos rotSin R h) (key P gk rotCos rotSin ⟨R.val / 4096, by omega⟩ ⟨h.val / 4, by omega⟩)

/-- The largest score of a row. -/
def top (R : Fin 16384) (h : Fin 8) : EReal := Finset.univ.fold max ⊥ (scores P gq gk R h)

/-- The reference's scores. -/
theorem v155_at (R : Fin 16384) (h : Fin 8) (j : Fin 4096) :
    val_main_v155 (F := Ideal) P gq gk (ix5 ⟨R.val / 4096, by omega⟩ ⟨h.val / 4, by omega⟩ ⟨h.val % 4, by omega⟩ ⟨R.val % 4096, by omega⟩ j)
      = scores P gq gk R h j := by
  pointwise [val_main_v155, val_main_v154]
  unfold scores score
  refine Finset.sum_congr rfl fun k _ => ?_
  rw [v153_at, mul_comm, key_eq]
  refine congrArg (· * _) ?_
  rw [← query_eq]
  refine congrArg (fun a => val_main_v102 (F := Ideal) P gq (ix4 _ _ a k)) (Fin.ext ?_)
  show h.val / 4 * 4 + h.val % 4 = h.val
  omega

/-- The reference's largest scores as it reduces them: from the constant minus infinity. -/
theorem v156_at (b : Fin 4) (n : Fin 2) (g : Fin 4) (s : Fin 4096) :
    val_main_v156 (F := Ideal) P gq gk (ix4 b n g s)
      = Finset.univ.fold max (val_main_cst_14 (F := Ideal) (Shape.Idx.first Gen.h_S_))
          (fun j => val_main_v155 (F := Ideal) P gq gk (ix5 b n g s j)) := by
  pointwise [val_main_v156]

/-- The constant is minus infinity. -/
theorem cst_14_at (i : S_.Idx) : val_main_cst_14 (F := Ideal) i = ⊥ := minf_eq

/-- The reference's largest scores, once more against minus infinity. -/
theorem v158_max (b : Fin 4) (n : Fin 2) (g : Fin 4) (s : Fin 4096) :
    val_main_v158 (F := Ideal) P gq gk (ix4 b n g s) = val_main_v156 (F := Ideal) P gq gk (ix4 b n g s) := by
  rw [val_main_v158_apply, val_main_v157_apply, val_main_cst_15_apply]
  generalize val_main_v156 (F := Ideal) P gq gk (ix4 b n g s) = z
  show max (Ideal.ofBits .f32 0xFF800000#32) z = z
  rw [minf_eq]
  exact max_eq_right bot_le

/-- The reference's largest scores. -/
theorem v158_at (R : Fin 16384) (h : Fin 8) :
    val_main_v158 (F := Ideal) P gq gk (ix4 ⟨R.val / 4096, by omega⟩ ⟨h.val / 4, by omega⟩ ⟨h.val % 4, by omega⟩ ⟨R.val % 4096, by omega⟩)
      = top P gq gk R h := by
  have e : (fun j => val_main_v155 (F := Ideal) P gq gk (ix5 ⟨R.val / 4096, by omega⟩ ⟨h.val / 4, by omega⟩ ⟨h.val % 4, by omega⟩ ⟨R.val % 4096, by omega⟩ j))
      = scores P gq gk R h := funext fun j => v155_at P gq gk R h j
  rw [v158_max, v156_at, cst_14_at, e, top]

/-- The reference's exponentials. -/
theorem v162_at (R : Fin 16384) (h : Fin 8) (j : Fin 4096) :
    val_main_v162 (F := Ideal) P gq gk (ix5 ⟨R.val / 4096, by omega⟩ ⟨h.val / 4, by omega⟩ ⟨h.val % 4, by omega⟩ ⟨R.val % 4096, by omega⟩ j)
      = Ideal.exp (scores P gq gk R h j - top P gq gk R h) := by
  pointwise [val_main_v162, val_main_v161, val_main_v160, val_main_v159]
  rw [v155_at, v158_at]

/-- The reference's weights. -/
theorem v166_at (R : Fin 16384) (h : Fin 8) (j : Fin 4096) :
    val_main_v166 (F := Ideal) P gq gk (ix5 ⟨R.val / 4096, by omega⟩ ⟨h.val / 4, by omega⟩ ⟨h.val % 4, by omega⟩ ⟨R.val % 4096, by omega⟩ j)
      = Ideal.div (Ideal.exp (scores P gq gk R h j - top P gq gk R h)) (∑ i, Ideal.exp (scores P gq gk R h i - top P gq gk R h)) := by
  pointwise [val_main_v166, val_main_v165, val_main_v164, val_main_v163, val_main_cst_16]
  rw [v162_at]
  refine congrArg (Ideal.div _) (Finset.sum_congr rfl fun i _ => ?_)
  rw [v162_at]

/-- The reference's array. -/
theorem v170_at (R : Fin 16384) (c : Fin 1024) :
    val_main_v170 (F := Ideal) P gq gk (ix2 R c)
      = ∑ j, value P ⟨R.val / 4096, by omega⟩ ⟨c.val / 128 / 4, by omega⟩ ⟨c.val % 128, by omega⟩ j
          * Ideal.div (Ideal.exp (scores P gq gk R ⟨c.val / 128, by omega⟩ j - top P gq gk R ⟨c.val / 128, by omega⟩))
            (∑ i, Ideal.exp (scores P gq gk R ⟨c.val / 128, by omega⟩ i - top P gq gk R ⟨c.val / 128, by omega⟩)) := by
  have e : idx_main_v168 (idx_main_v169 (ix2 R c))
      = ix5 ⟨R.val / 4096, by omega⟩ ⟨c.val / 128 / 4, by omega⟩ ⟨c.val % 128, by omega⟩ ⟨c.val / 128 % 4, by omega⟩ ⟨R.val % 4096, by omega⟩ := by
    funext a
    match a with
    | ⟨0, _⟩ => exact Fin.ext (by show (R.val * 1024 + c.val) / 4194304 = R.val / 4096; omega)
    | ⟨1, _⟩ => exact Fin.ext (by show (R.val * 1024 + c.val) / 512 % 2 = c.val / 128 / 4; omega)
    | ⟨2, _⟩ => exact Fin.ext (by show (R.val * 1024 + c.val) % 128 = c.val % 128; omega)
    | ⟨3, _⟩ => exact Fin.ext (by show (R.val * 1024 + c.val) / 128 % 4 = c.val / 128 % 4; omega)
    | ⟨4, _⟩ => exact Fin.ext (by show (R.val * 1024 + c.val) / 1024 % 4096 = R.val % 4096; omega)
  rw [val_main_v170_apply, val_main_v169_apply, val_main_v168_apply, e]
  pointwise [val_main_v167]
  refine Finset.sum_congr rfl fun j _ => ?_
  rw [value_eq, ← v166_at P gq gk R ⟨c.val / 128, by omega⟩ j]

/-- Every score is real when the gains are. -/
theorem scores_real (hq : ∀ k, Fin' (gq (ix1 k))) (hk : ∀ k, Fin' (gk (ix1 k))) (R : Fin 16384) (h : Fin 8) (j : Fin 4096) :
    Fin' (scores P gq gk R h j) := by
  unfold scores score
  exact Fin'.sum fun k => Fin'.mul
    (Fin'.mul (rope_real (rms_real _ _ hq) (rotCos_real _) (rotSin_real _) k) scale_real)
    (rope_real (rms_real _ _ hk) (rotCos_real _) (rotSin_real _) k)

/-- With finite gains the reference's array is the attention's, at coordinates. -/
theorem heads_at (hq : ∀ k, Fin' (gq (ix1 k))) (hk : ∀ k, Fin' (gk (ix1 k))) (R : Fin 16384) (c : Fin 1024) :
    val_main_v170 (F := Ideal) P gq gk (ix2 R c) = heads P gq gk rotCos rotSin (ix2 R c) := by
  rw [v170_at]
  have hs := scores_real P gq gk hq hk R ⟨c.val / 128, by omega⟩
  show _ = head P gq gk rotCos rotSin R ⟨c.val / 128, by omega⟩ ⟨c.val % 128, by omega⟩
  unfold head attend
  unfold top
  unfold scores at *
  exact (weighted (n := 4095) _ hs _ (fold_max_real (n := 4095) _ hs) _).symm

/-- With finite gains the reference's array is the attention's. -/
theorem heads_eq (hq : ∀ k, Fin' (gq (ix1 k))) (hk : ∀ k, Fin' (gk (ix1 k))) :
    val_main_v170 (F := Ideal) P gq gk = heads P gq gk rotCos rotSin := by
  funext y
  idx_vars y
  exact heads_at P gq gk hq hk _ _

end Cert.AttentionRefIdeal.Own

end
-- ==== Proof.AttentionClaims.lean ====
/- The claims about the attention: with finite gains the kernel's array is the reference's. -/
module

public import proofs.«01_k».proof.Defs
public import proofs.«01_k».proof.Proof.Gen.Pre_gains_finite
public import proofs.«01_k».proof.Proof.Gen.Attention.Frame
public import proofs.«01_k».proof.Proof.RefHeads
public import Idealize.ShloMosaic.Lib.Quiescent
public import Idealize.ShloMosaic.Lib.ReduceAll

@[expose] public section

set_option maxRecDepth 16384

noncomputable section

open Idealize.ShloMosaic Idealize.ShloMosaic.TcCoe Idealize.SL.Sem

namespace Cert.AttentionOwn

open Cert.Softmax Cert.Heads

/-- An extended real whose magnitude is less than plus infinity is a real. -/
theorem real_of_abs_lt (x : EReal) (h : Ideal.cmp .olt (FloatOps.hostAbsf (F := Ideal) (φ := .f32) x) (FloatOps.ofBits (F := Ideal) .f32 0x7F800000#32) = 1#1) : Fin' x := by
  have ht : (FloatOps.ofBits (F := Ideal) .f32 0x7F800000#32 : EReal) = ⊤ := by
    show Ideal.ofBits .f32 0x7F800000#32 = ⊤
    simp [Ideal.ofBits, Ideal.ieee]
  rw [ht] at h
  cases x with
  | bot =>
    have e : (FloatOps.hostAbsf (F := Ideal) (φ := .f32) (⊥ : EReal) : EReal) = ⊤ := by
      show max (⊥ : EReal) (-⊥) = ⊤
      rw [EReal.neg_bot]; exact max_eq_right bot_le
    rw [e] at h
    simp [Ideal.cmp] at h
  | top =>
    have e : (FloatOps.hostAbsf (F := Ideal) (φ := .f32) (⊤ : EReal) : EReal) = ⊤ := by
      show max (⊤ : EReal) (-⊤) = ⊤
      exact max_eq_left le_top
    rw [e] at h
    simp [Ideal.cmp] at h
  | coe r => exact ⟨r, rfl⟩

/-- The precondition says of each gain that it is real. -/
theorem gains_real (P : Rows) (gq gk : Gain) (h : Cert.Pre_gains_finite.fn (F := Ideal) P gq gk = fun _ => 1#1) :
    (∀ k, Fin' (gq (ix1 k))) ∧ (∀ k, Fin' (gk (ix1 k))) := by
  have h0 := congrFun h (Shape.Idx.first Cert.Pre_gains_finite.Gen.h_S_)
  dsimp only [Cert.Pre_gains_finite.fn] at h0
  have h1 : _ ∧ _ := IntOp.andi_eq_one.1 h0
  refine ⟨fun k => real_of_abs_lt _ ?_, fun k => real_of_abs_lt _ ?_⟩
  · exact Host.reduce_andi_all _ _ _ _ _ h1.1 (ix1 k)
  · exact Host.reduce_andi_all _ _ _ _ _ h1.2 (ix1 k)

/-- The program as written ends with its arguments as they were. -/
theorem frame_p : Cert.quiescent_Attention := fun m ρ _ => Cert.Attention.Gen.frame m ρ

/-- So does the program over the extended reals. -/
theorem frame_i : Cert.quiescent_AttentionIdeal := fun m ρ _ => Cert.AttentionIdeal.Gen.frame m ρ

/-- So it does with finite gains. -/
theorem frame_i_pre : Cert.quiescent_AttentionIdeal_pre_gains_finite := fun m ρ _ => Cert.AttentionIdeal.Gen.frame m ρ

/-- So does the reference. -/
theorem frame_r : Cert.quiescent_AttentionRefIdeal := fun m ρ _ =>
  (θ_run Cert.AttentionRefIdeal.defs _ _).mono (fun r h => ⟨fun c => (h c).2,
      Idealize.ShloMosaic.sem_eq_zero_of_no_sems (by decide) r.2⟩)
    (Cert.AttentionRefIdeal.Value.run (F := Ideal) m ρ)

/-- So it does with finite gains. -/
theorem frame_r_pre : Cert.quiescent_AttentionRefIdeal_pre_gains_finite := fun m ρ _ =>
  (θ_run Cert.AttentionRefIdeal.defs _ _).mono (fun r h => ⟨fun c => (h c).2,
      Idealize.ShloMosaic.sem_eq_zero_of_no_sems (by decide) r.2⟩)
    (Cert.AttentionRefIdeal.Value.run (F := Ideal) m ρ)

/-- With finite gains the kernel's array is the reference's. -/
theorem algebraic : Cert.algebraic_AttentionIdeal_AttentionRefIdeal_pre_gains_finite := by
  intro m ρ m' ρ' hpre hagree
  have hg := fun c => gains_real _ _ _ (hpre c)
  refine ⟨fun c => heads (Cert.AttentionIdeal.Own.rowsOf m c) (Cert.AttentionIdeal.Own.qGain m c) (Cert.AttentionIdeal.Own.kGain m c)
    Cert.AttentionIdeal.Own.rotCos Cert.AttentionIdeal.Own.rotSin, ?_, ?_⟩
  · exact (θ_run Cert.AttentionIdeal.defs _ _).mono
      (fun _ h c => ⟨(h c).1.trans ((Cert.AttentionIdeal.Own.final m c).trans
        (by rw [Cert.AttentionIdeal.Own.cosT_eq, Cert.AttentionIdeal.Own.sinT_eq])), (h c).2⟩)
      (Cert.AttentionIdeal.Value.run_blocks (F := Ideal) m ρ)
  · refine (θ_run Cert.AttentionRefIdeal.defs _ _).mono (fun _ h c => ⟨(h c).1.trans ?_, (h c).2⟩)
      (Cert.AttentionRefIdeal.Value.run (F := Ideal) m' ρ')
    refine (Cert.AttentionRefIdeal.Read.val_main_v170_eq (F := Ideal) (StableHlo.launchContents m' c)).trans ?_
    rw [StableHlo.launchContents_devRef, StableHlo.launchContents_devRef, StableHlo.launchContents_devRef,
      (hagree c).1, (hagree c).2.1, (hagree c).2.2]
    exact Cert.AttentionRefIdeal.Own.heads_eq _ _ _ (hg c).1 (hg c).2

end Cert.AttentionOwn

end
-- ==== Proof.Tokens.lean ====
/- The tokens of four sequences laid out as the rows of one matrix, read at an index. -/
module

public import Idealize.ShloMosaic.Lib.Pipeline.ValueKit

@[expose] public section

set_option maxRecDepth 16384

noncomputable section

open Idealize.ShloMosaic

namespace Cert.Tokens

/-- Row `r` of the matrix is token `r % 4096` of sequence `r / 4096`. -/
theorem rows_apply (X : FVec Ideal ⟨3, ![4, 4096, 2048]⟩ .f32)
    (hs : (⟨3, ![4, 4096, 2048]⟩ : Shape).ShapeCasts ⟨2, ![16384, 2048]⟩) (r : Fin 16384) (k : Fin 2048)
    (h1 : r.val / 4096 < 4) (h2 : r.val % 4096 < 4096) :
    shapeCast ⟨2, ![16384, 2048]⟩ X hs (ix2 r k) = X (ix3 ⟨r.val / 4096, h1⟩ ⟨r.val % 4096, h2⟩ k) :=
  shapeCast_apply X hs _ _ (by
    rewrite [Shape.rowMajor_val_three, Shape.rowMajor_val_two]
    show (r.val / 4096 * 4096 + r.val % 4096) * 2048 + k.val = r.val * 2048 + k.val
    omega)

end Cert.Tokens

end
-- ==== Proof.ProjA.lean ====
/- The projection onto the grouped attention's columns: the tiled product's array is the reference's slice of the one
   contraction, element by element. -/
module

public import proofs.«01_k».proof.Proof.Tokens
public import proofs.«01_k».proof.Proof.Gen.ProjAIdeal.Value
public import proofs.«01_k».proof.Proof.Gen.ProjARefIdeal.Read

@[expose] public section

set_option maxRecDepth 16384

noncomputable section

open Idealize.ShloMosaic Idealize.ShloMosaic.TcCoe Idealize.SL.Sem
open Idealize.ShloMosaic.Pipeline (Dat)

namespace Cert.ProjAIdeal.Own

open Cert.ProjAIdeal Cert.ProjAIdeal.Gen

variable (m : (ℓ : Loc nD τ sig) → Buf (Elt Ideal) ℓ)

/-- The plain contraction's columns, of the device's two argument arrays. -/
abbrev want (c : Dev nD) : FVec Ideal S16384x1536 .f32 :=
  Cert.ProjARefIdeal.Read.val_main_v2 (F := Ideal) (m ((c : Thread nD τ).loc main_arg0)) (m ((c : Thread nD τ).loc main_arg1))

/-- The rows the launch reads are the tokens, row by row. -/
theorem rows_eq (c : Dev nD) : V m c main_v1
    = (truncf .bf16 (shapeCast S16384x2048 (m ((c : Thread nD τ).loc main_arg0) : FVec Ideal S4x4096x2048 .f32) shapeCasts_S4x4096x2048_S16384x2048 : FVec Ideal S16384x2048 .f32) bitsLt_bf16_f32 : FVec Ideal S16384x2048 .bf16) := by
  dsimp only [V, hostOps0]; after_results; rfl

/-- The weights the launch reads are the weight matrix's columns. -/
theorem cols_eq (c : Dev nD) : V m c main_v3
    = (truncf .bf16 (extractStridedSlice S2048x1536 ![0, 0] (m ((c : Thread nD τ).loc main_arg1) : FVec Ideal S2048x15744 .f32) slices_S2048x15744_S2048x1536_0_0 : FVec Ideal S2048x1536 .f32) bitsLt_bf16_f32 : FVec Ideal S2048x1536 .bf16) := by
  dsimp only [V, hostOps0]; after_results

/-- Every point's block of each of the three arrays. -/
theorem idx_at : ∀ t : Fin cfg0.N, win0_0.index t = ![t.val / 2, 0] ∧ win0_1.index t = ![0, t.val % 2]
    ∧ win0_2.index t = ![t.val / 2, t.val % 2] :=
  (by decide +kernel : ∀ t : Fin grid0.N, win0_0.index t = ![t.val / 2, 0] ∧ win0_1.index t = ![0, t.val % 2]
    ∧ win0_2.index t = ![t.val / 2, t.val % 2])

/-- A point's block of the tokens, at coordinates. -/
theorem read_rows (c : Dev nD) (t : Fin cfg0.N) (r : Fin 1024) (k : Fin 2048) (hr : t.val / 2 * 1024 + r.val < 16384)
    (h1 : (t.val / 2 * 1024 + r.val) / 4096 < 4) (h2 : (t.val / 2 * 1024 + r.val) % 4096 < 4096) :
    iblk m c 0 t (ix2 r k) = (m ((c : Thread nD τ).loc main_arg0) : FVec Ideal S4x4096x2048 .f32)
      (ix3 ⟨(t.val / 2 * 1024 + r.val) / 4096, h1⟩ ⟨(t.val / 2 * 1024 + r.val) % 4096, h2⟩ k) := by
  have e : (win0_0.blk t).view.emb (ix2 r k) = (ix2 (⟨t.val / 2 * 1024 + r.val, hr⟩ : Fin 16384) k : S16384x2048.Idx) := by
    blk_ext [idx_at t]
  blk_simp [iblk]
  rw [e, rows_eq]
  exact Cert.Tokens.rows_apply _ _ _ k h1 h2

/-- A point's block of the weights, at coordinates. -/
theorem read_cols (c : Dev nD) (t : Fin cfg0.N) (k : Fin 2048) (l : Fin 768) (h : t.val % 2 * 768 + l.val < 15744) :
    iblk m c 1 t (ix2 k l) = (m ((c : Thread nD τ).loc main_arg1) : FVec Ideal S2048x15744 .f32)
      (ix2 k ⟨t.val % 2 * 768 + l.val, h⟩) := by
  have e : (win0_1.blk t).view.emb (ix2 k l) = (ix2 k (⟨t.val % 2 * 768 + l.val, by omega⟩ : Fin 1536) : S2048x1536.Idx) := by
    blk_ext [idx_at t]
  blk_simp [iblk]
  rw [e, cols_eq]
  pointwise

/-- What one point stores at an index of its block is the plain contraction at the array index it lies at. -/
theorem point (c : Dev nD) (t : Fin cfg0.N) (y : S1024x768.Idx) :
    k0_pay1 (iblk m c 0 t) (iblk m c 1 t) y = want m c (((cfg0.win 2).blk t).view.emb y) := by
  pointwise [k0_pay1, want, Cert.ProjARefIdeal.Read.val_main_v2, Cert.ProjARefIdeal.Read.val_main_v1, Cert.ProjARefIdeal.Read.val_main_v0]
  idx_vars y
  have ht : t.val < 32 := t.isLt
  refine Finset.sum_congr rfl fun k _ => ?_
  rw [read_rows m c t _ k (by omega) (by omega) (by omega), read_cols m c t k _ (by omega)]
  blk_simp [idx_at t]

/-- The array after the run is the plain contraction's columns. -/
theorem final (c : Dev nD) : (dats m 0 c).arrAt 2 cfg0.N = want m c := by
  refine (dats m 0 c).arrAt_eq_of_covers 2 _ (by decide +kernel) fun t _ y => ?_
  blk_simp
  rw [after0_2]; frame_out
  exact point m c t y

end Cert.ProjAIdeal.Own

end
-- ==== Proof.ProjAClaims.lean ====
/- The claims about the projection onto the grouped attention's columns, from its value and the reference's run. -/
module

public import proofs.«01_k».proof.Defs
public import proofs.«01_k».proof.Proof.Gen.ProjA.Frame
public import proofs.«01_k».proof.Proof.ProjA
public import Idealize.ShloMosaic.Lib.Quiescent

@[expose] public section

noncomputable section

open Idealize.ShloMosaic Idealize.ShloMosaic.TcCoe Idealize.SL.Sem

namespace Cert.ProjAOwn

/-- The program as written ends with its arguments as they were. -/
theorem frame_p : Cert.quiescent_ProjA := fun m ρ _ => Cert.ProjA.Gen.frame m ρ

/-- So does the program over the extended reals. -/
theorem frame_i : Cert.quiescent_ProjAIdeal := fun m ρ _ => Cert.ProjAIdeal.Gen.frame m ρ

/-- So does the reference. -/
theorem frame_r : Cert.quiescent_ProjARefIdeal := fun m ρ _ =>
  (θ_run Cert.ProjARefIdeal.defs _ _).mono (fun r h => ⟨fun c => (h c).2,
      Idealize.ShloMosaic.sem_eq_zero_of_no_sems (by decide) r.2⟩)
    (Cert.ProjARefIdeal.Value.run (F := Ideal) m ρ)

/-- The kernel's array is the reference's. -/
theorem algebraic : Cert.algebraic_ProjAIdeal_ProjARefIdeal := by
  intro m ρ m' ρ' _ hagree
  refine ⟨fun c => Cert.ProjAIdeal.Own.want m c, ?_, ?_⟩
  · exact (θ_run Cert.ProjAIdeal.defs _ _).mono
      (fun _ h c => ⟨(h c).1.trans (Cert.ProjAIdeal.Own.final m c), (h c).2⟩)
      (Cert.ProjAIdeal.Value.run_blocks (F := Ideal) m ρ)
  · refine (θ_run Cert.ProjARefIdeal.defs _ _).mono (fun _ h c => ⟨(h c).1.trans ?_, (h c).2⟩)
      (Cert.ProjARefIdeal.Value.run (F := Ideal) m' ρ')
    rw [(hagree c).1, (hagree c).2]
    rfl

end Cert.ProjAOwn

end
-- ==== Proof.ProjB.lean ====
/- The projection onto the recurrence's columns: the tiled product's array is the reference's slice of the one
   contraction, element by element. -/
module

public import proofs.«01_k».proof.Proof.Tokens
public import proofs.«01_k».proof.Proof.Gen.ProjBIdeal.Value
public import proofs.«01_k».proof.Proof.Gen.ProjBRefIdeal.Read

@[expose] public section

set_option maxRecDepth 16384

noncomputable section

open Idealize.ShloMosaic Idealize.ShloMosaic.TcCoe Idealize.SL.Sem
open Idealize.ShloMosaic.Pipeline (Dat)

namespace Cert.ProjBIdeal.Own

open Cert.ProjBIdeal Cert.ProjBIdeal.Gen

variable (m : (ℓ : Loc nD τ sig) → Buf (Elt Ideal) ℓ)

/-- The plain contraction's columns, of the device's two argument arrays. -/
abbrev want (c : Dev nD) : FVec Ideal S16384x3456 .f32 :=
  Cert.ProjBRefIdeal.Read.val_main_v2 (F := Ideal) (m ((c : Thread nD τ).loc main_arg0)) (m ((c : Thread nD τ).loc main_arg1))

/-- The rows the launch reads are the tokens, row by row. -/
theorem rows_eq (c : Dev nD) : V m c main_v1
    = (truncf .bf16 (shapeCast S16384x2048 (m ((c : Thread nD τ).loc main_arg0) : FVec Ideal S4x4096x2048 .f32) shapeCasts_S4x4096x2048_S16384x2048 : FVec Ideal S16384x2048 .f32) bitsLt_bf16_f32 : FVec Ideal S16384x2048 .bf16) := by
  dsimp only [V, hostOps0]; after_results; rfl

/-- The weights the launch reads are the weight matrix's columns. -/
theorem cols_eq (c : Dev nD) : V m c main_v3
    = (truncf .bf16 (extractStridedSlice S2048x3456 ![0, 1536] (m ((c : Thread nD τ).loc main_arg1) : FVec Ideal S2048x15744 .f32) slices_S2048x15744_S2048x3456_0_1536 : FVec Ideal S2048x3456 .f32) bitsLt_bf16_f32 : FVec Ideal S2048x3456 .bf16) := by
  dsimp only [V, hostOps0]; after_results

/-- Every point's block of each of the three arrays. -/
theorem idx_at : ∀ t : Fin cfg0.N, win0_0.index t = ![t.val / 3, 0] ∧ win0_1.index t = ![0, t.val % 3]
    ∧ win0_2.index t = ![t.val / 3, t.val % 3] :=
  (by decide +kernel : ∀ t : Fin grid0.N, win0_0.index t = ![t.val / 3, 0] ∧ win0_1.index t = ![0, t.val % 3]
    ∧ win0_2.index t = ![t.val / 3, t.val % 3])

/-- A point's block of the tokens, at coordinates. -/
theorem read_rows (c : Dev nD) (t : Fin cfg0.N) (r : Fin 1024) (k : Fin 2048) (hr : t.val / 3 * 1024 + r.val < 16384)
    (h1 : (t.val / 3 * 1024 + r.val) / 4096 < 4) (h2 : (t.val / 3 * 1024 + r.val) % 4096 < 4096) :
    iblk m c 0 t (ix2 r k) = (m ((c : Thread nD τ).loc main_arg0) : FVec Ideal S4x4096x2048 .f32)
      (ix3 ⟨(t.val / 3 * 1024 + r.val) / 4096, h1⟩ ⟨(t.val / 3 * 1024 + r.val) % 4096, h2⟩ k) := by
  have e : (win0_0.blk t).view.emb (ix2 r k) = (ix2 (⟨t.val / 3 * 1024 + r.val, hr⟩ : Fin 16384) k : S16384x2048.Idx) := by
    blk_ext [idx_at t]
  blk_simp [iblk]
  rw [e, rows_eq]
  exact Cert.Tokens.rows_apply _ _ _ k h1 h2

/-- A point's block of the weights, at coordinates. -/
theorem read_cols (c : Dev nD) (t : Fin cfg0.N) (k : Fin 2048) (l : Fin 1152) (h : 1536 + (t.val % 3 * 1152 + l.val) < 15744) :
    iblk m c 1 t (ix2 k l) = (m ((c : Thread nD τ).loc main_arg1) : FVec Ideal S2048x15744 .f32)
      (ix2 k ⟨1536 + (t.val % 3 * 1152 + l.val), h⟩) := by
  have e : (win0_1.blk t).view.emb (ix2 k l) = (ix2 k (⟨t.val % 3 * 1152 + l.val, by omega⟩ : Fin 3456) : S2048x3456.Idx) := by
    blk_ext [idx_at t]
  blk_simp [iblk]
  rw [e, cols_eq]
  pointwise

/-- What one point stores at an index of its block is the plain contraction at the array index it lies at. -/
theorem point (c : Dev nD) (t : Fin cfg0.N) (y : S1024x1152.Idx) :
    k0_pay1 (iblk m c 0 t) (iblk m c 1 t) y = want m c (((cfg0.win 2).blk t).view.emb y) := by
  pointwise [k0_pay1, want, Cert.ProjBRefIdeal.Read.val_main_v2, Cert.ProjBRefIdeal.Read.val_main_v1, Cert.ProjBRefIdeal.Read.val_main_v0]
  idx_vars y
  have ht : t.val < 48 := t.isLt
  refine Finset.sum_congr rfl fun k _ => ?_
  rw [read_rows m c t _ k (by omega) (by omega) (by omega), read_cols m c t k _ (by omega)]
  blk_simp [idx_at t]

/-- The array after the run is the plain contraction's columns. -/
theorem final (c : Dev nD) : (dats m 0 c).arrAt 2 cfg0.N = want m c := by
  refine (dats m 0 c).arrAt_eq_of_covers 2 _ (by decide +kernel) fun t _ y => ?_
  blk_simp
  rw [after0_2]; frame_out
  exact point m c t y

end Cert.ProjBIdeal.Own

end
-- ==== Proof.ProjBClaims.lean ====
/- The claims about the projection onto the recurrence's columns, from its value and the reference's run. -/
module

public import proofs.«01_k».proof.Defs
public import proofs.«01_k».proof.Proof.Gen.ProjB.Frame
public import proofs.«01_k».proof.Proof.ProjB
public import Idealize.ShloMosaic.Lib.Quiescent

@[expose] public section

noncomputable section

open Idealize.ShloMosaic Idealize.ShloMosaic.TcCoe Idealize.SL.Sem

namespace Cert.ProjBOwn

/-- The program as written ends with its arguments as they were. -/
theorem frame_p : Cert.quiescent_ProjB := fun m ρ _ => Cert.ProjB.Gen.frame m ρ

/-- So does the program over the extended reals. -/
theorem frame_i : Cert.quiescent_ProjBIdeal := fun m ρ _ => Cert.ProjBIdeal.Gen.frame m ρ

/-- So does the reference. -/
theorem frame_r : Cert.quiescent_ProjBRefIdeal := fun m ρ _ =>
  (θ_run Cert.ProjBRefIdeal.defs _ _).mono (fun r h => ⟨fun c => (h c).2,
      Idealize.ShloMosaic.sem_eq_zero_of_no_sems (by decide) r.2⟩)
    (Cert.ProjBRefIdeal.Value.run (F := Ideal) m ρ)

/-- The kernel's array is the reference's. -/
theorem algebraic : Cert.algebraic_ProjBIdeal_ProjBRefIdeal := by
  intro m ρ m' ρ' _ hagree
  refine ⟨fun c => Cert.ProjBIdeal.Own.want m c, ?_, ?_⟩
  · exact (θ_run Cert.ProjBIdeal.defs _ _).mono
      (fun _ h c => ⟨(h c).1.trans (Cert.ProjBIdeal.Own.final m c), (h c).2⟩)
      (Cert.ProjBIdeal.Value.run_blocks (F := Ideal) m ρ)
  · refine (θ_run Cert.ProjBRefIdeal.defs _ _).mono (fun _ h c => ⟨(h c).1.trans ?_, (h c).2⟩)
      (Cert.ProjBRefIdeal.Value.run (F := Ideal) m' ρ')
    rw [(hagree c).1, (hagree c).2]
    rfl

end Cert.ProjBOwn

end
-- ==== Proof.ProjC.lean ====
/- The projection onto the dilated attention's columns: the tiled product's array is the reference's slice of the one
   contraction, element by element. -/
module

public import proofs.«01_k».proof.Proof.Tokens
public import proofs.«01_k».proof.Proof.Gen.ProjCIdeal.Value
public import proofs.«01_k».proof.Proof.Gen.ProjCRefIdeal.Read

@[expose] public section

set_option maxRecDepth 16384

noncomputable section

open Idealize.ShloMosaic Idealize.ShloMosaic.TcCoe Idealize.SL.Sem
open Idealize.ShloMosaic.Pipeline (Dat)

namespace Cert.ProjCIdeal.Own

open Cert.ProjCIdeal Cert.ProjCIdeal.Gen

variable (m : (ℓ : Loc nD τ sig) → Buf (Elt Ideal) ℓ)

/-- The plain contraction's columns, of the device's two argument arrays. -/
abbrev want (c : Dev nD) : FVec Ideal S16384x4608 .f32 :=
  Cert.ProjCRefIdeal.Read.val_main_v2 (F := Ideal) (m ((c : Thread nD τ).loc main_arg0)) (m ((c : Thread nD τ).loc main_arg1))

/-- The rows the launch reads are the tokens, row by row. -/
theorem rows_eq (c : Dev nD) : V m c main_v1
    = (truncf .bf16 (shapeCast S16384x2048 (m ((c : Thread nD τ).loc main_arg0) : FVec Ideal S4x4096x2048 .f32) shapeCasts_S4x4096x2048_S16384x2048 : FVec Ideal S16384x2048 .f32) bitsLt_bf16_f32 : FVec Ideal S16384x2048 .bf16) := by
  dsimp only [V, hostOps0]; after_results; rfl

/-- The weights the launch reads are the weight matrix's columns. -/
theorem cols_eq (c : Dev nD) : V m c main_v3
    = (truncf .bf16 (extractStridedSlice S2048x4608 ![0, 4992] (m ((c : Thread nD τ).loc main_arg1) : FVec Ideal S2048x15744 .f32) slices_S2048x15744_S2048x4608_0_4992 : FVec Ideal S2048x4608 .f32) bitsLt_bf16_f32 : FVec Ideal S2048x4608 .bf16) := by
  dsimp only [V, hostOps0]; after_results

/-- Every point's block of each of the three arrays. -/
theorem idx_at : ∀ t : Fin cfg0.N, win0_0.index t = ![t.val / 4, 0] ∧ win0_1.index t = ![0, t.val % 4]
    ∧ win0_2.index t = ![t.val / 4, t.val % 4] :=
  (by decide +kernel : ∀ t : Fin grid0.N, win0_0.index t = ![t.val / 4, 0] ∧ win0_1.index t = ![0, t.val % 4]
    ∧ win0_2.index t = ![t.val / 4, t.val % 4])

/-- A point's block of the tokens, at coordinates. -/
theorem read_rows (c : Dev nD) (t : Fin cfg0.N) (r : Fin 1024) (k : Fin 2048) (hr : t.val / 4 * 1024 + r.val < 16384)
    (h1 : (t.val / 4 * 1024 + r.val) / 4096 < 4) (h2 : (t.val / 4 * 1024 + r.val) % 4096 < 4096) :
    iblk m c 0 t (ix2 r k) = (m ((c : Thread nD τ).loc main_arg0) : FVec Ideal S4x4096x2048 .f32)
      (ix3 ⟨(t.val / 4 * 1024 + r.val) / 4096, h1⟩ ⟨(t.val / 4 * 1024 + r.val) % 4096, h2⟩ k) := by
  have e : (win0_0.blk t).view.emb (ix2 r k) = (ix2 (⟨t.val / 4 * 1024 + r.val, hr⟩ : Fin 16384) k : S16384x2048.Idx) := by
    blk_ext [idx_at t]
  blk_simp [iblk]
  rw [e, rows_eq]
  exact Cert.Tokens.rows_apply _ _ _ k h1 h2

/-- A point's block of the weights, at coordinates. -/
theorem read_cols (c : Dev nD) (t : Fin cfg0.N) (k : Fin 2048) (l : Fin 1152) (h : 4992 + (t.val % 4 * 1152 + l.val) < 15744) :
    iblk m c 1 t (ix2 k l) = (m ((c : Thread nD τ).loc main_arg1) : FVec Ideal S2048x15744 .f32)
      (ix2 k ⟨4992 + (t.val % 4 * 1152 + l.val), h⟩) := by
  have e : (win0_1.blk t).view.emb (ix2 k l) = (ix2 k (⟨t.val % 4 * 1152 + l.val, by omega⟩ : Fin 4608) : S2048x4608.Idx) := by
    blk_ext [idx_at t]
  blk_simp [iblk]
  rw [e, cols_eq]
  pointwise

/-- What one point stores at an index of its block is the plain contraction at the array index it lies at. -/
theorem point (c : Dev nD) (t : Fin cfg0.N) (y : S1024x1152.Idx) :
    k0_pay1 (iblk m c 0 t) (iblk m c 1 t) y = want m c (((cfg0.win 2).blk t).view.emb y) := by
  pointwise [k0_pay1, want, Cert.ProjCRefIdeal.Read.val_main_v2, Cert.ProjCRefIdeal.Read.val_main_v1, Cert.ProjCRefIdeal.Read.val_main_v0]
  idx_vars y
  have ht : t.val < 64 := t.isLt
  refine Finset.sum_congr rfl fun k _ => ?_
  rw [read_rows m c t _ k (by omega) (by omega) (by omega), read_cols m c t k _ (by omega)]
  blk_simp [idx_at t]

/-- The array after the run is the plain contraction's columns. -/
theorem final (c : Dev nD) : (dats m 0 c).arrAt 2 cfg0.N = want m c := by
  refine (dats m 0 c).arrAt_eq_of_covers 2 _ (by decide +kernel) fun t _ y => ?_
  blk_simp
  rw [after0_2]; frame_out
  exact point m c t y

end Cert.ProjCIdeal.Own

end
-- ==== Proof.ProjCClaims.lean ====
/- The claims about the projection onto the dilated attention's columns, from its value and the reference's run. -/
module

public import proofs.«01_k».proof.Defs
public import proofs.«01_k».proof.Proof.Gen.ProjC.Frame
public import proofs.«01_k».proof.Proof.ProjC
public import Idealize.ShloMosaic.Lib.Quiescent

@[expose] public section

noncomputable section

open Idealize.ShloMosaic Idealize.ShloMosaic.TcCoe Idealize.SL.Sem

namespace Cert.ProjCOwn

/-- The program as written ends with its arguments as they were. -/
theorem frame_p : Cert.quiescent_ProjC := fun m ρ _ => Cert.ProjC.Gen.frame m ρ

/-- So does the program over the extended reals. -/
theorem frame_i : Cert.quiescent_ProjCIdeal := fun m ρ _ => Cert.ProjCIdeal.Gen.frame m ρ

/-- So does the reference. -/
theorem frame_r : Cert.quiescent_ProjCRefIdeal := fun m ρ _ =>
  (θ_run Cert.ProjCRefIdeal.defs _ _).mono (fun r h => ⟨fun c => (h c).2,
      Idealize.ShloMosaic.sem_eq_zero_of_no_sems (by decide) r.2⟩)
    (Cert.ProjCRefIdeal.Value.run (F := Ideal) m ρ)

/-- The kernel's array is the reference's. -/
theorem algebraic : Cert.algebraic_ProjCIdeal_ProjCRefIdeal := by
  intro m ρ m' ρ' _ hagree
  refine ⟨fun c => Cert.ProjCIdeal.Own.want m c, ?_, ?_⟩
  · exact (θ_run Cert.ProjCIdeal.defs _ _).mono
      (fun _ h c => ⟨(h c).1.trans (Cert.ProjCIdeal.Own.final m c), (h c).2⟩)
      (Cert.ProjCIdeal.Value.run_blocks (F := Ideal) m ρ)
  · refine (θ_run Cert.ProjCRefIdeal.defs _ _).mono (fun _ h c => ⟨(h c).1.trans ?_, (h c).2⟩)
      (Cert.ProjCRefIdeal.Value.run (F := Ideal) m' ρ')
    rw [(hagree c).1, (hagree c).2]
    rfl

end Cert.ProjCOwn

end
-- ==== Proof.ProjG.lean ====
/- The projection onto the gates' columns: the tiled product's array is the reference's slice of the one
   contraction, element by element. -/
module

public import proofs.«01_k».proof.Proof.Tokens
public import proofs.«01_k».proof.Proof.Gen.ProjGIdeal.Value
public import proofs.«01_k».proof.Proof.Gen.ProjGRefIdeal.Read

@[expose] public section

set_option maxRecDepth 16384

noncomputable section

open Idealize.ShloMosaic Idealize.ShloMosaic.TcCoe Idealize.SL.Sem
open Idealize.ShloMosaic.Pipeline (Dat)

namespace Cert.ProjGIdeal.Own

open Cert.ProjGIdeal Cert.ProjGIdeal.Gen

variable (m : (ℓ : Loc nD τ sig) → Buf (Elt Ideal) ℓ)

/-- The plain contraction's columns, of the device's two argument arrays. -/
abbrev want (c : Dev nD) : FVec Ideal S16384x6144 .f32 :=
  Cert.ProjGRefIdeal.Read.val_main_v2 (F := Ideal) (m ((c : Thread nD τ).loc main_arg0)) (m ((c : Thread nD τ).loc main_arg1))

/-- The rows the launch reads are the tokens, row by row. -/
theorem rows_eq (c : Dev nD) : V m c main_v1
    = (truncf .bf16 (shapeCast S16384x2048 (m ((c : Thread nD τ).loc main_arg0) : FVec Ideal S4x4096x2048 .f32) shapeCasts_S4x4096x2048_S16384x2048 : FVec Ideal S16384x2048 .f32) bitsLt_bf16_f32 : FVec Ideal S16384x2048 .bf16) := by
  dsimp only [V, hostOps0]; after_results; rfl

/-- The weights the launch reads are the weight matrix's columns. -/
theorem cols_eq (c : Dev nD) : V m c main_v3
    = (truncf .bf16 (extractStridedSlice S2048x6144 ![0, 9600] (m ((c : Thread nD τ).loc main_arg1) : FVec Ideal S2048x15744 .f32) slices_S2048x15744_S2048x6144_0_9600 : FVec Ideal S2048x6144 .f32) bitsLt_bf16_f32 : FVec Ideal S2048x6144 .bf16) := by
  dsimp only [V, hostOps0]; after_results

/-- Every point's block of each of the three arrays. -/
theorem idx_at : ∀ t : Fin cfg0.N, win0_0.index t = ![t.val / 6, 0] ∧ win0_1.index t = ![0, t.val % 6]
    ∧ win0_2.index t = ![t.val / 6, t.val % 6] :=
  (by decide +kernel : ∀ t : Fin grid0.N, win0_0.index t = ![t.val / 6, 0] ∧ win0_1.index t = ![0, t.val % 6]
    ∧ win0_2.index t = ![t.val / 6, t.val % 6])

/-- A point's block of the tokens, at coordinates. -/
theorem read_rows (c : Dev nD) (t : Fin cfg0.N) (r : Fin 1024) (k : Fin 2048) (hr : t.val / 6 * 1024 + r.val < 16384)
    (h1 : (t.val / 6 * 1024 + r.val) / 4096 < 4) (h2 : (t.val / 6 * 1024 + r.val) % 4096 < 4096) :
    iblk m c 0 t (ix2 r k) = (m ((c : Thread nD τ).loc main_arg0) : FVec Ideal S4x4096x2048 .f32)
      (ix3 ⟨(t.val / 6 * 1024 + r.val) / 4096, h1⟩ ⟨(t.val / 6 * 1024 + r.val) % 4096, h2⟩ k) := by
  have e : (win0_0.blk t).view.emb (ix2 r k) = (ix2 (⟨t.val / 6 * 1024 + r.val, hr⟩ : Fin 16384) k : S16384x2048.Idx) := by
    blk_ext [idx_at t]
  blk_simp [iblk]
  rw [e, rows_eq]
  exact Cert.Tokens.rows_apply _ _ _ k h1 h2

/-- A point's block of the weights, at coordinates. -/
theorem read_cols (c : Dev nD) (t : Fin cfg0.N) (k : Fin 2048) (l : Fin 1024) (h : 9600 + (t.val % 6 * 1024 + l.val) < 15744) :
    iblk m c 1 t (ix2 k l) = (m ((c : Thread nD τ).loc main_arg1) : FVec Ideal S2048x15744 .f32)
      (ix2 k ⟨9600 + (t.val % 6 * 1024 + l.val), h⟩) := by
  have e : (win0_1.blk t).view.emb (ix2 k l) = (ix2 k (⟨t.val % 6 * 1024 + l.val, by omega⟩ : Fin 6144) : S2048x6144.Idx) := by
    blk_ext [idx_at t]
  blk_simp [iblk]
  rw [e, cols_eq]
  pointwise

/-- What one point stores at an index of its block is the plain contraction at the array index it lies at. -/
theorem point (c : Dev nD) (t : Fin cfg0.N) (y : S1024x1024.Idx) :
    k0_pay1 (iblk m c 0 t) (iblk m c 1 t) y = want m c (((cfg0.win 2).blk t).view.emb y) := by
  pointwise [k0_pay1, want, Cert.ProjGRefIdeal.Read.val_main_v2, Cert.ProjGRefIdeal.Read.val_main_v1, Cert.ProjGRefIdeal.Read.val_main_v0]
  idx_vars y
  have ht : t.val < 96 := t.isLt
  refine Finset.sum_congr rfl fun k _ => ?_
  rw [read_rows m c t _ k (by omega) (by omega) (by omega), read_cols m c t k _ (by omega)]
  blk_simp [idx_at t]

/-- The array after the run is the plain contraction's columns. -/
theorem final (c : Dev nD) : (dats m 0 c).arrAt 2 cfg0.N = want m c := by
  refine (dats m 0 c).arrAt_eq_of_covers 2 _ (by decide +kernel) fun t _ y => ?_
  blk_simp
  rw [after0_2]; frame_out
  exact point m c t y

end Cert.ProjGIdeal.Own

end
-- ==== Proof.ProjGClaims.lean ====
/- The claims about the projection onto the gates' columns, from its value and the reference's run. -/
module

public import proofs.«01_k».proof.Defs
public import proofs.«01_k».proof.Proof.Gen.ProjG.Frame
public import proofs.«01_k».proof.Proof.ProjG
public import Idealize.ShloMosaic.Lib.Quiescent

@[expose] public section

noncomputable section

open Idealize.ShloMosaic Idealize.ShloMosaic.TcCoe Idealize.SL.Sem

namespace Cert.ProjGOwn

/-- The program as written ends with its arguments as they were. -/
theorem frame_p : Cert.quiescent_ProjG := fun m ρ _ => Cert.ProjG.Gen.frame m ρ

/-- So does the program over the extended reals. -/
theorem frame_i : Cert.quiescent_ProjGIdeal := fun m ρ _ => Cert.ProjGIdeal.Gen.frame m ρ

/-- So does the reference. -/
theorem frame_r : Cert.quiescent_ProjGRefIdeal := fun m ρ _ =>
  (θ_run Cert.ProjGRefIdeal.defs _ _).mono (fun r h => ⟨fun c => (h c).2,
      Idealize.ShloMosaic.sem_eq_zero_of_no_sems (by decide) r.2⟩)
    (Cert.ProjGRefIdeal.Value.run (F := Ideal) m ρ)

/-- The kernel's array is the reference's. -/
theorem algebraic : Cert.algebraic_ProjGIdeal_ProjGRefIdeal := by
  intro m ρ m' ρ' _ hagree
  refine ⟨fun c => Cert.ProjGIdeal.Own.want m c, ?_, ?_⟩
  · exact (θ_run Cert.ProjGIdeal.defs _ _).mono
      (fun _ h c => ⟨(h c).1.trans (Cert.ProjGIdeal.Own.final m c), (h c).2⟩)
      (Cert.ProjGIdeal.Value.run_blocks (F := Ideal) m ρ)
  · refine (θ_run Cert.ProjGRefIdeal.defs _ _).mono (fun _ h c => ⟨(h c).1.trans ?_, (h c).2⟩)
      (Cert.ProjGRefIdeal.Value.run (F := Ideal) m' ρ')
    rw [(hagree c).1, (hagree c).2]
    rfl

end Cert.ProjGOwn

end
-- ==== Proof.Merge.lean ====
/- The gated merge: the tiled sum of the three gated products is the reference's, element by element. -/
module

public import proofs.«01_k».proof.Proof.Tokens
public import proofs.«01_k».proof.Proof.Gen.MergeIdeal.Value
public import proofs.«01_k».proof.Proof.Gen.MergeRefIdeal.Read

@[expose] public section

set_option maxRecDepth 16384

noncomputable section

open Idealize.ShloMosaic Idealize.ShloMosaic.TcCoe Idealize.SL.Sem
open Idealize.ShloMosaic.Pipeline (Dat)

namespace Cert.MergeIdeal.Own

open Cert.MergeIdeal Cert.MergeIdeal.Gen

variable (m : (ℓ : Loc nD τ sig) → Buf (Elt Ideal) ℓ)

/-- The first branch's rows, of the launch. -/
abbrev yA (c : Dev nD) : FVec Ideal S16384x1024 .bf16 := m ((c : Thread nD τ).loc main_arg0)
/-- The second branch's rows. -/
abbrev yB (c : Dev nD) : FVec Ideal S16384x1024 .bf16 := m ((c : Thread nD τ).loc main_arg1)
/-- The third branch's rows. -/
abbrev yC (c : Dev nD) : FVec Ideal S16384x512 .bf16 := m ((c : Thread nD τ).loc main_arg2)
/-- The gates' columns. -/
abbrev gates (c : Dev nD) : FVec Ideal S16384x6144 .f32 := m ((c : Thread nD τ).loc main_arg3)
/-- The three branches' weights, one under another. -/
abbrev wAll (c : Dev nD) : FVec Ideal S2560x2048 .f32 := m ((c : Thread nD τ).loc main_arg4)

/-- The plain gated sum, of the device's five argument arrays. -/
abbrev want (c : Dev nD) : FVec Ideal S16384x2048 .bf16 :=
  Cert.MergeRefIdeal.Read.val_main_v27 (F := Ideal) (yA m c) (yB m c) (yC m c) (gates m c) (wAll m c)

/-- The first branch's weights the launch reads are the weight matrix's first rows. -/
theorem wA_eq (c : Dev nD) : V m c main_v1
    = (extractStridedSlice S1024x2048 ![0, 0] (truncf .bf16 (wAll m c) bitsLt_bf16_f32 : FVec Ideal S2560x2048 .bf16) slices_S2560x2048_S1024x2048_0_0 : FVec Ideal S1024x2048 .bf16) := by
  dsimp only [V, hostOps0]; after_results

/-- The second branch's are the rows after them. -/
theorem wB_eq (c : Dev nD) : V m c main_v2
    = (extractStridedSlice S1024x2048 ![1024, 0] (truncf .bf16 (wAll m c) bitsLt_bf16_f32 : FVec Ideal S2560x2048 .bf16) slices_S2560x2048_S1024x2048_1024_0 : FVec Ideal S1024x2048 .bf16) := by
  dsimp only [V, hostOps0]; after_results

/-- The third branch's are the last rows. -/
theorem wC_eq (c : Dev nD) : V m c main_v3
    = (extractStridedSlice S512x2048 ![2048, 0] (truncf .bf16 (wAll m c) bitsLt_bf16_f32 : FVec Ideal S2560x2048 .bf16) slices_S2560x2048_S512x2048_2048_0 : FVec Ideal S512x2048 .bf16) := by
  dsimp only [V, hostOps0]; after_results

/-- The other arrays the launch reads are arguments as they are. -/
theorem kept_eq (c : Dev nD) : V m c main_arg0 = yA m c ∧ V m c main_arg1 = yB m c ∧ V m c main_arg2 = yC m c ∧ V m c main_arg3 = gates m c := by
  refine ⟨?_, ?_, ?_, ?_⟩ <;> (dsimp only [V, hostOps0]; after_results)

/-- Every point's block of each of the ten arrays. -/
theorem idx_at : ∀ t : Fin cfg0.N, win0_0.index t = ![t.val / 4, 0] ∧ win0_1.index t = ![t.val / 4, 0] ∧ win0_2.index t = ![t.val / 4, 0]
    ∧ win0_3.index t = ![t.val / 4, t.val % 4] ∧ win0_4.index t = ![t.val / 4, 4 + t.val % 4] ∧ win0_5.index t = ![t.val / 4, 8 + t.val % 4]
    ∧ win0_6.index t = ![0, t.val % 4] ∧ win0_7.index t = ![0, t.val % 4] ∧ win0_8.index t = ![0, t.val % 4]
    ∧ win0_9.index t = ![t.val / 4, t.val % 4] :=
  (by decide +kernel : ∀ t : Fin grid0.N, win0_0.index t = ![t.val / 4, 0] ∧ win0_1.index t = ![t.val / 4, 0] ∧ win0_2.index t = ![t.val / 4, 0]
    ∧ win0_3.index t = ![t.val / 4, t.val % 4] ∧ win0_4.index t = ![t.val / 4, 4 + t.val % 4] ∧ win0_5.index t = ![t.val / 4, 8 + t.val % 4]
    ∧ win0_6.index t = ![0, t.val % 4] ∧ win0_7.index t = ![0, t.val % 4] ∧ win0_8.index t = ![0, t.val % 4]
    ∧ win0_9.index t = ![t.val / 4, t.val % 4])

/-- A point's block of the first branch's rows, at coordinates. -/
theorem read_yA (c : Dev nD) (t : Fin cfg0.N) (r : Fin 512) (k : Fin 1024) (h : t.val / 4 * 512 + r.val < 16384) :
    iblk m c 0 t (ix2 r k) = yA m c (ix2 ⟨t.val / 4 * 512 + r.val, h⟩ k) := by
  have e : (win0_0.blk t).view.emb (ix2 r k) = (ix2 (⟨t.val / 4 * 512 + r.val, h⟩ : Fin 16384) k : S16384x1024.Idx) := by
    blk_ext [idx_at t]
  blk_simp [iblk]
  rw [e, (kept_eq m c).1]

/-- A point's block of the second branch's rows, at coordinates. -/
theorem read_yB (c : Dev nD) (t : Fin cfg0.N) (r : Fin 512) (k : Fin 1024) (h : t.val / 4 * 512 + r.val < 16384) :
    iblk m c 1 t (ix2 r k) = yB m c (ix2 ⟨t.val / 4 * 512 + r.val, h⟩ k) := by
  have e : (win0_1.blk t).view.emb (ix2 r k) = (ix2 (⟨t.val / 4 * 512 + r.val, h⟩ : Fin 16384) k : S16384x1024.Idx) := by
    blk_ext [idx_at t]
  blk_simp [iblk]
  rw [e, (kept_eq m c).2.1]

/-- A point's block of the third branch's rows, at coordinates. -/
theorem read_yC (c : Dev nD) (t : Fin cfg0.N) (r : Fin 512) (k : Fin 512) (h : t.val / 4 * 512 + r.val < 16384) :
    iblk m c 2 t (ix2 r k) = yC m c (ix2 ⟨t.val / 4 * 512 + r.val, h⟩ k) := by
  have e : (win0_2.blk t).view.emb (ix2 r k) = (ix2 (⟨t.val / 4 * 512 + r.val, h⟩ : Fin 16384) k : S16384x512.Idx) := by
    blk_ext [idx_at t]
  blk_simp [iblk]
  rw [e, (kept_eq m c).2.2.1]

/-- A point's block of the first branch's gates, at coordinates. -/
theorem read_gA (c : Dev nD) (t : Fin cfg0.N) (r l : Fin 512) (h : t.val / 4 * 512 + r.val < 16384) (h' : t.val % 4 * 512 + l.val < 6144) :
    iblk m c 3 t (ix2 r l) = gates m c (ix2 ⟨t.val / 4 * 512 + r.val, h⟩ ⟨t.val % 4 * 512 + l.val, h'⟩) := by
  have e : (win0_3.blk t).view.emb (ix2 r l) = (ix2 (⟨t.val / 4 * 512 + r.val, h⟩ : Fin 16384) (⟨t.val % 4 * 512 + l.val, h'⟩ : Fin 6144) : S16384x6144.Idx) := by
    blk_ext [idx_at t]
  blk_simp [iblk]
  rw [e, (kept_eq m c).2.2.2]

/-- A point's block of the second branch's gates, at coordinates. -/
theorem read_gB (c : Dev nD) (t : Fin cfg0.N) (r l : Fin 512) (h : t.val / 4 * 512 + r.val < 16384) (h' : 2048 + (t.val % 4 * 512 + l.val) < 6144) :
    iblk m c 4 t (ix2 r l) = gates m c (ix2 ⟨t.val / 4 * 512 + r.val, h⟩ ⟨2048 + (t.val % 4 * 512 + l.val), h'⟩) := by
  have e : (win0_4.blk t).view.emb (ix2 r l) = (ix2 (⟨t.val / 4 * 512 + r.val, h⟩ : Fin 16384) (⟨2048 + (t.val % 4 * 512 + l.val), h'⟩ : Fin 6144) : S16384x6144.Idx) := by
    blk_ext [idx_at t]
  blk_simp [iblk]
  rw [e, (kept_eq m c).2.2.2]

/-- A point's block of the third branch's gates, at coordinates. -/
theorem read_gC (c : Dev nD) (t : Fin cfg0.N) (r l : Fin 512) (h : t.val / 4 * 512 + r.val < 16384) (h' : 4096 + (t.val % 4 * 512 + l.val) < 6144) :
    iblk m c 5 t (ix2 r l) = gates m c (ix2 ⟨t.val / 4 * 512 + r.val, h⟩ ⟨4096 + (t.val % 4 * 512 + l.val), h'⟩) := by
  have e : (win0_5.blk t).view.emb (ix2 r l) = (ix2 (⟨t.val / 4 * 512 + r.val, h⟩ : Fin 16384) (⟨4096 + (t.val % 4 * 512 + l.val), h'⟩ : Fin 6144) : S16384x6144.Idx) := by
    blk_ext [idx_at t]
  blk_simp [iblk]
  rw [e, (kept_eq m c).2.2.2]

/-- A point's block of the first branch's weights, at coordinates. -/
theorem read_wA (c : Dev nD) (t : Fin cfg0.N) (k : Fin 1024) (l : Fin 512) (h : k.val < 2560) (h' : t.val % 4 * 512 + l.val < 2048) :
    iblk m c 6 t (ix2 k l) = wAll m c (ix2 ⟨k.val, h⟩ ⟨t.val % 4 * 512 + l.val, h'⟩) := by
  have e : (win0_6.blk t).view.emb (ix2 k l) = (ix2 k (⟨t.val % 4 * 512 + l.val, h'⟩ : Fin 2048) : S1024x2048.Idx) := by
    blk_ext [idx_at t]
  blk_simp [iblk]
  rw [e, wA_eq]
  pointwise

/-- A point's block of the second branch's weights, at coordinates. -/
theorem read_wB (c : Dev nD) (t : Fin cfg0.N) (k : Fin 1024) (l : Fin 512) (h : 1024 + k.val < 2560) (h' : t.val % 4 * 512 + l.val < 2048) :
    iblk m c 7 t (ix2 k l) = wAll m c (ix2 ⟨1024 + k.val, h⟩ ⟨t.val % 4 * 512 + l.val, h'⟩) := by
  have e : (win0_7.blk t).view.emb (ix2 k l) = (ix2 k (⟨t.val % 4 * 512 + l.val, h'⟩ : Fin 2048) : S1024x2048.Idx) := by
    blk_ext [idx_at t]
  blk_simp [iblk]
  rw [e, wB_eq]
  pointwise

/-- A point's block of the third branch's weights, at coordinates. -/
theorem read_wC (c : Dev nD) (t : Fin cfg0.N) (k : Fin 512) (l : Fin 512) (h : 2048 + k.val < 2560) (h' : t.val % 4 * 512 + l.val < 2048) :
    iblk m c 8 t (ix2 k l) = wAll m c (ix2 ⟨2048 + k.val, h⟩ ⟨t.val % 4 * 512 + l.val, h'⟩) := by
  have e : (win0_8.blk t).view.emb (ix2 k l) = (ix2 k (⟨t.val % 4 * 512 + l.val, h'⟩ : Fin 2048) : S512x2048.Idx) := by
    blk_ext [idx_at t]
  blk_simp [iblk]
  rw [e, wC_eq]
  pointwise

/-- A gated sum of three numbers, each gate the logistic function of its score. -/
def gated (g0 A g1 B g2 D : EReal) : EReal :=
  Ideal.div 1 (1 + Ideal.exp (-g0)) * A + Ideal.div 1 (1 + Ideal.exp (-g1)) * B + Ideal.div 1 (1 + Ideal.exp (-g2)) * D

/-- Equal scores and equal numbers give equal gated sums. -/
theorem gated_congr {g0 A g1 B g2 D g0' A' g1' B' g2' D' : EReal} (h0 : g0 = g0') (h1 : g1 = g1') (h2 : g2 = g2')
    (hA : A = A') (hB : B = B') (hD : D = D') : gated g0 A g1 B g2 D = gated g0' A' g1' B' g2' D' := by
  rw [h0, h1, h2, hA, hB, hD]

/-- The reference's sum at a row and a column. -/
theorem want_at (a : FVec Ideal S16384x1024 .bf16) (b : FVec Ideal S16384x1024 .bf16) (d : FVec Ideal S16384x512 .bf16)
    (g : FVec Ideal S16384x6144 .f32) (w : FVec Ideal S2560x2048 .f32) (R : Fin 16384) (C : Fin 2048)
    (h0 : C.val < 6144) (h1 : 2048 + C.val < 6144) (h2 : 4096 + C.val < 6144)
    (k0 : ∀ k : Fin 1024, k.val < 2560) (k1 : ∀ k : Fin 1024, 1024 + k.val < 2560) (k2 : ∀ k : Fin 512, 2048 + k.val < 2560) :
    Cert.MergeRefIdeal.Read.val_main_v27 (F := Ideal) a b d g w (ix2 R C)
      = gated (g (ix2 R ⟨C.val, h0⟩)) (∑ k : Fin 1024, a (ix2 R k) * w (ix2 ⟨k.val, k0 k⟩ C))
        (g (ix2 R ⟨2048 + C.val, h1⟩)) (∑ k : Fin 1024, b (ix2 R k) * w (ix2 ⟨1024 + k.val, k1 k⟩ C))
        (g (ix2 R ⟨4096 + C.val, h2⟩)) (∑ k : Fin 512, d (ix2 R k) * w (ix2 ⟨2048 + k.val, k2 k⟩ C)) := by
  unfold gated
  pointwise [Cert.MergeRefIdeal.Read.val_main_v27, Cert.MergeRefIdeal.Read.val_main_v26, Cert.MergeRefIdeal.Read.val_main_v25, Cert.MergeRefIdeal.Read.val_main_v24, Cert.MergeRefIdeal.Read.val_main_v23, Cert.MergeRefIdeal.Read.val_main_v22, Cert.MergeRefIdeal.Read.val_main_v21, Cert.MergeRefIdeal.Read.val_main_v20, Cert.MergeRefIdeal.Read.val_main_v19, Cert.MergeRefIdeal.Read.val_main_v18, Cert.MergeRefIdeal.Read.val_main_v17, Cert.MergeRefIdeal.Read.val_main_v16, Cert.MergeRefIdeal.Read.val_main_v15, Cert.MergeRefIdeal.Read.val_main_v14, Cert.MergeRefIdeal.Read.val_main_v13, Cert.MergeRefIdeal.Read.val_main_v12, Cert.MergeRefIdeal.Read.val_main_v11, Cert.MergeRefIdeal.Read.val_main_v10, Cert.MergeRefIdeal.Read.val_main_v9, Cert.MergeRefIdeal.Read.val_main_v8, Cert.MergeRefIdeal.Read.val_main_v7, Cert.MergeRefIdeal.Read.val_main_v6, Cert.MergeRefIdeal.Read.val_main_v5, Cert.MergeRefIdeal.Read.val_main_v4, Cert.MergeRefIdeal.Read.val_main_v3, Cert.MergeRefIdeal.Read.val_main_v2, Cert.MergeRefIdeal.Read.val_main_v1, Cert.MergeRefIdeal.Read.val_main_v0, Cert.MergeRefIdeal.Read.val_main_cst, Cert.MergeRefIdeal.Read.val_main_cst_0]

/-- What one point stores, of its nine blocks, at a row and a column of its block. -/
theorem stored (g0 : Vec Ideal S512x512 .f32) (a : Vec Ideal S512x1024 .bf16) (u : Vec Ideal S1024x512 .bf16) (g1 : Vec Ideal S512x512 .f32)
    (b : Vec Ideal S512x1024 .bf16) (v : Vec Ideal S1024x512 .bf16) (g2 : Vec Ideal S512x512 .f32) (d : Vec Ideal S512x512 .bf16)
    (w : Vec Ideal S512x512 .bf16) (r l : Fin 512) :
    k0_pay1 (k0_pay2 g0 a u g1 b v) (k0_pay3 g2) (Scalar.ofBits .f32 0x3F800000#32) d w (ix2 r l)
      = gated (g0 (ix2 r l)) (∑ k : Fin 1024, a (ix2 r k) * u (ix2 k l)) (g1 (ix2 r l)) (∑ k : Fin 1024, b (ix2 r k) * v (ix2 k l))
        (g2 (ix2 r l)) (∑ k : Fin 512, d (ix2 r k) * w (ix2 k l)) := by
  unfold gated
  pointwise [k0_pay1, k0_pay2, k0_pay3]
  simp only [zero_sub]

/-- What one point stores at an index of its block is the plain sum at the array index it lies at. -/
theorem point_at (c : Dev nD) (t : Fin cfg0.N) (r l : Fin 512) (h : t.val / 4 * 512 + r.val < 16384) (h' : t.val % 4 * 512 + l.val < 2048) :
    k0_pay1 (k0_pay2 (iblk m c 3 t) (iblk m c 0 t) (iblk m c 6 t) (iblk m c 4 t) (iblk m c 1 t) (iblk m c 7 t)) (k0_pay3 (iblk m c 5 t)) (Scalar.ofBits .f32 0x3F800000#32) (iblk m c 2 t) (iblk m c 8 t) (ix2 r l)
      = want m c (ix2 ⟨t.val / 4 * 512 + r.val, h⟩ ⟨t.val % 4 * 512 + l.val, h'⟩) := by
  have w := want_at (yA m c) (yB m c) (yC m c) (gates m c) (wAll m c) ⟨t.val / 4 * 512 + r.val, h⟩ ⟨t.val % 4 * 512 + l.val, h'⟩
    (by omega) (by omega) (by omega) (fun k => by omega) (fun k => by omega) (fun k => by omega)
  have s := stored (iblk m c 3 t) (iblk m c 0 t) (iblk m c 6 t) (iblk m c 4 t) (iblk m c 1 t) (iblk m c 7 t) (iblk m c 5 t) (iblk m c 2 t) (iblk m c 8 t) r l
  refine s.trans (Eq.trans ?_ w.symm)
  exact gated_congr (read_gA m c t r l h _) (read_gB m c t r l h _) (read_gC m c t r l h _)
    (Finset.sum_congr rfl fun k _ => congrArg₂ (· * ·) (read_yA m c t r k h) (read_wA m c t k l _ h'))
    (Finset.sum_congr rfl fun k _ => congrArg₂ (· * ·) (read_yB m c t r k h) (read_wB m c t k l _ h'))
    (Finset.sum_congr rfl fun k _ => congrArg₂ (· * ·) (read_yC m c t r k h) (read_wC m c t k l _ h'))

/-- The same at any index of the block. -/
theorem point (c : Dev nD) (t : Fin cfg0.N) (y : S512x512.Idx) :
    k0_pay1 (k0_pay2 (iblk m c 3 t) (iblk m c 0 t) (iblk m c 6 t) (iblk m c 4 t) (iblk m c 1 t) (iblk m c 7 t)) (k0_pay3 (iblk m c 5 t)) (Scalar.ofBits .f32 0x3F800000#32) (iblk m c 2 t) (iblk m c 8 t) y
      = want m c (((cfg0.win 9).blk t).view.emb y) := by
  idx_vars y
  have ht : t.val < 128 := t.isLt
  refine (point_at m c t _ _ (by omega) (by omega)).trans (congrArg _ (Eq.symm ?_))
  blk_simp
  blk_ext [idx_at t]

/-- The array after the run is the plain gated sum. -/
theorem final (c : Dev nD) : (dats m 0 c).arrAt 9 cfg0.N = want m c := by
  refine (dats m 0 c).arrAt_eq_of_covers 9 _ (by decide +kernel) fun t _ y => ?_
  blk_simp
  rw [after0_9]; frame_out
  exact point m c t y

end Cert.MergeIdeal.Own

end
-- ==== Proof.MergeClaims.lean ====
/- The claims about the gated merge, from its value and the reference's run. -/
module

public import proofs.«01_k».proof.Defs
public import proofs.«01_k».proof.Proof.Gen.Merge.Frame
public import proofs.«01_k».proof.Proof.Merge
public import Idealize.ShloMosaic.Lib.Quiescent

@[expose] public section

set_option maxRecDepth 16384

noncomputable section

open Idealize.ShloMosaic Idealize.ShloMosaic.TcCoe Idealize.SL.Sem

namespace Cert.MergeOwn

/-- The program as written ends with its arguments as they were. -/
theorem frame_p : Cert.quiescent_Merge := fun m ρ _ => Cert.Merge.Gen.frame m ρ

/-- So does the program over the extended reals. -/
theorem frame_i : Cert.quiescent_MergeIdeal := fun m ρ _ => Cert.MergeIdeal.Gen.frame m ρ

/-- So does the reference. -/
theorem frame_r : Cert.quiescent_MergeRefIdeal := fun m ρ _ =>
  (θ_run Cert.MergeRefIdeal.defs _ _).mono (fun r h => ⟨fun c => (h c).2,
      Idealize.ShloMosaic.sem_eq_zero_of_no_sems (by decide) r.2⟩)
    (Cert.MergeRefIdeal.Value.run (F := Ideal) m ρ)

/-- The kernel's array is the reference's. -/
theorem algebraic : Cert.algebraic_MergeIdeal_MergeRefIdeal := by
  intro m ρ m' ρ' _ hagree
  refine ⟨fun c => Cert.MergeIdeal.Own.want m c, ?_, ?_⟩
  · exact (θ_run Cert.MergeIdeal.defs _ _).mono
      (fun _ h c => ⟨(h c).1.trans (Cert.MergeIdeal.Own.final m c), (h c).2⟩)
      (Cert.MergeIdeal.Value.run_blocks (F := Ideal) m ρ)
  · refine (θ_run Cert.MergeRefIdeal.defs _ _).mono (fun _ h c => ⟨(h c).1.trans ?_, (h c).2⟩)
      (Cert.MergeRefIdeal.Value.run (F := Ideal) m' ρ')
    rw [(hagree c).1, (hagree c).2.1, (hagree c).2.2.1, (hagree c).2.2.2.1, (hagree c).2.2.2.2]
    rfl

end Cert.MergeOwn

end
-- ==== Proof.LayerNorm.lean ====
/- The layer norm of one row of 2048 numbers, over extended reals. -/
module

public import Idealize.ShloMosaic.Lib.Pipeline.ValueKit

@[expose] public section

noncomputable section

namespace Cert.LayerNorm

open Idealize.ShloMosaic

/-- The mean of a row of 2048 numbers. -/
def mean (z : Fin 2048 → EReal) : EReal := Ideal.div (∑ k, z k) (Ideal.ofBits .f32 0x45000000#32)

/-- The row's normed entry, with its gain and its shift. -/
def rowNorm (z : Fin 2048 → EReal) (g b : EReal) (l : Fin 2048) : EReal :=
  (z l - mean z) * Ideal.rsqrt (mean (fun k => (z k - mean z) * (z k - mean z)) + Ideal.ofBits .f32 0x3727C5AC#32) * g + b

/-- Equal rows, gains and shifts give equal normed entries. -/
theorem rowNorm_congr {z z' : Fin 2048 → EReal} {g g' b b' : EReal} (hz : ∀ k, z k = z' k) (hg : g = g') (hb : b = b') (l : Fin 2048) :
    rowNorm z g b l = rowNorm z' g' b' l := by
  obtain rfl : z = z' := funext hz
  rw [hg, hb]

end Cert.LayerNorm

end
-- ==== Proof.OutProj.lean ====
/- The output projection, the layer norm of its sum with the residual rows, and the router's scores of the normed rows: the
   tiled arrays are the reference's, element by element. -/
module

public import proofs.«01_k».proof.Proof.LayerNorm
public import proofs.«01_k».proof.Proof.Gen.OutProjIdeal.Value
public import proofs.«01_k».proof.Proof.Gen.OutProjRefIdeal.Read
public import Idealize.ShloMosaic.Lib.Pipeline.ValueKit
public import Idealize.ShloMosaic.Lib.StableHlo.RunRead
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.OutProjIdeal.Own

open Cert.OutProjIdeal Cert.OutProjIdeal.Gen Cert.LayerNorm

variable (m : (ℓ : Loc nD τ sig) → Buf (Elt Ideal) ℓ)

/-- The merged rows, of the launch. -/
abbrev ms (c : Dev nD) : FVec Ideal S16384x2048 .bf16 := m ((c : Thread nD τ).loc main_arg0)
/-- The residual rows. -/
abbrev xs (c : Dev nD) : FVec Ideal S16384x2048 .f32 := m ((c : Thread nD τ).loc main_arg1)
/-- The output projection's weights. -/
abbrev wo (c : Dev nD) : FVec Ideal S2048x2048 .f32 := m ((c : Thread nD τ).loc main_arg2)
/-- The norm's gains. -/
abbrev lg (c : Dev nD) : FVec Ideal S2048 .f32 := m ((c : Thread nD τ).loc main_arg3)
/-- The norm's shifts. -/
abbrev lb (c : Dev nD) : FVec Ideal S2048 .f32 := m ((c : Thread nD τ).loc main_arg4)
/-- The group router's weights. -/
abbrev wg (c : Dev nD) : FVec Ideal S2048x8 .f32 := m ((c : Thread nD τ).loc main_arg5)
/-- Its bias. -/
abbrev bg (c : Dev nD) : FVec Ideal S8 .f32 := m ((c : Thread nD τ).loc main_arg6)
/-- The expert router's weights. -/
abbrev we (c : Dev nD) : FVec Ideal S2048x64 .f32 := m ((c : Thread nD τ).loc main_arg7)
/-- Its bias. -/
abbrev be (c : Dev nD) : FVec Ideal S64 .f32 := m ((c : Thread nD τ).loc main_arg8)

/-- The reference's normed rows, of the device's argument arrays. -/
abbrev want0 (c : Dev nD) : FVec Ideal S16384x2048 .f32 :=
  Cert.OutProjRefIdeal.Read.val_main_v28 (F := Ideal) (ms m c) (xs m c) (wo m c) (lg m c) (lb m c)
/-- The normed rows cast. -/
abbrev want1 (c : Dev nD) : FVec Ideal S16384x2048 .bf16 :=
  Cert.OutProjRefIdeal.Read.val_main_v38 (F := Ideal) (ms m c) (xs m c) (wo m c) (lg m c) (lb m c)
/-- The reference's scores, with their columns of zeros. -/
abbrev want2 (c : Dev nD) : FVec Ideal S16384x128 .f32 :=
  Cert.OutProjRefIdeal.Read.val_main_v39 (F := Ideal) (ms m c) (xs m c) (wo m c) (lg m c) (lb m c) (wg m c) (bg m c) (we m c) (be m c)

/-- The number that fills the further columns. -/
def fill : FVec Ideal S_ .f32 := sitofp .f32 (constantI S_ 32 0#32 : IVec S_ 32)

/-- It is zero. -/
theorem fill_at (i : S_.Idx) : fill i = 0 := by
  show (((0#32 : BitVec 32).toInt : ℝ) : EReal) = 0
  simp

/-- The two routers' weights side by side, the further columns filled. -/
def rwt (a : FVec Ideal S2048x8 .f32) (b : FVec Ideal S2048x64 .f32) : FVec Ideal S2048x128 .f32 :=
  pad S2048x128 ![0, 0] ![0, 56] ![0, 0]
    (concatenate S2048x72 1 [⟨S2048x8, a⟩, ⟨S2048x64, b⟩] concatenates_S2048x8_S2048x64_S2048x72_d1 : FVec Ideal S2048x72 .f32)
    fill pads_S2048x72_S2048x128_000_0560 h_S_

/-- The two routers' biases side by side, the further columns filled. -/
def rbs (a : FVec Ideal S8 .f32) (b : FVec Ideal S64 .f32) : FVec Ideal S128 .f32 :=
  pad S128 ![0] ![56] ![0] (concatenate S72 0 [⟨S8, a⟩, ⟨S64, b⟩] concatenates_S8_S64_S72_d0 : FVec Ideal S72 .f32)
    fill pads_S72_S128_0560 h_S_

/-- One of the first eight columns is the group router's. -/
theorem rw_group (a : FVec Ideal S2048x8 .f32) (b : FVec Ideal S2048x64 .f32) (k : Fin 2048) (l : Fin 8) (h : l.val < 128) :
    rwt a b (ix2 k ⟨l.val, h⟩) = a (ix2 k l) := by
  refine (pad_apply_of_inside _ _ _ _ fill _ _ _ (ix2 k (⟨l.val, by omega⟩ : Fin 72) : S2048x72.Idx) fun x => ?_).trans ?_
  · fin_cases x <;> simp [ix2]
  · refine concatenate_pair_apply_left (t := S2048x72) (s₁ := S2048x8) (s₂ := S2048x64) 1 a b _ _ rfl (ix2 k l) fun x => ?_
    fin_cases x <;> simp [ix2]

/-- One of the next sixty-four is the expert router's. -/
theorem rw_expert (a : FVec Ideal S2048x8 .f32) (b : FVec Ideal S2048x64 .f32) (k : Fin 2048) (l : Fin 64) (h : 8 + l.val < 128) :
    rwt a b (ix2 k ⟨8 + l.val, h⟩) = b (ix2 k l) := by
  refine (pad_apply_of_inside _ _ _ _ fill _ _ _ (ix2 k (⟨8 + l.val, by omega⟩ : Fin 72) : S2048x72.Idx) fun x => ?_).trans ?_
  · fin_cases x <;> simp [ix2]
  · refine concatenate_pair_apply_right (t := S2048x72) (s₁ := S2048x8) (s₂ := S2048x64) 1 a b _ _ rfl rfl (ix2 k l) (fun x hx => ?_) ?_
    · fin_cases x
      · simp [ix2]
      · exact absurd rfl hx
    · show l.val + 8 = 8 + l.val
      omega

/-- The others are zero. -/
theorem rw_none (a : FVec Ideal S2048x8 .f32) (b : FVec Ideal S2048x64 .f32) (k : Fin 2048) (l : Fin 128) (h : 72 ≤ l.val) :
    rwt a b (ix2 k l) = 0 := by
  refine (pad_apply_of_not_inside _ _ _ _ fill _ _ _ 1 fun hx => ?_).trans (fill_at _)
  have h2 := hx.2.2
  have h3 : (l.val - 0) / (0 + 1) < 72 := h2
  omega

/-- The biases' first eight entries are the group router's. -/
theorem rb_group (a : FVec Ideal S8 .f32) (b : FVec Ideal S64 .f32) (l : Fin 8) (h : l.val < 128) :
    rbs a b (ix1 ⟨l.val, h⟩) = a (ix1 l) := by
  refine (pad_apply_of_inside _ _ _ _ fill _ _ _ (ix1 (⟨l.val, by omega⟩ : Fin 72) : S72.Idx) fun x => ?_).trans ?_
  · fin_cases x <;> simp [ix1]
  · refine concatenate_pair_apply_left (t := S72) (s₁ := S8) (s₂ := S64) 0 a b _ _ rfl (ix1 l) fun x => ?_
    fin_cases x <;> simp [ix1]

/-- The next sixty-four are the expert router's. -/
theorem rb_expert (a : FVec Ideal S8 .f32) (b : FVec Ideal S64 .f32) (l : Fin 64) (h : 8 + l.val < 128) :
    rbs a b (ix1 ⟨8 + l.val, h⟩) = b (ix1 l) := by
  refine (pad_apply_of_inside _ _ _ _ fill _ _ _ (ix1 (⟨8 + l.val, by omega⟩ : Fin 72) : S72.Idx) fun x => ?_).trans ?_
  · fin_cases x <;> simp [ix1]
  · refine concatenate_pair_apply_right (t := S72) (s₁ := S8) (s₂ := S64) 0 a b _ _ rfl rfl (ix1 l) (fun x hx => ?_) ?_
    · fin_cases x
      exact absurd rfl hx
    · show l.val + 8 = 8 + l.val
      omega

/-- The others are zero. -/
theorem rb_none (a : FVec Ideal S8 .f32) (b : FVec Ideal S64 .f32) (l : Fin 128) (h : 72 ≤ l.val) : rbs a b (ix1 l) = 0 := by
  refine (pad_apply_of_not_inside _ _ _ _ fill _ _ _ 0 fun hx => ?_).trans (fill_at _)
  have h2 := hx.2.2
  have h3 : (l.val - 0) / (0 + 1) < 72 := h2
  omega

/-- The output projection's weights as the launch reads them. -/
theorem wo_eq (c : Dev nD) : V m c main_v5 = (truncf .bf16 (wo m c) bitsLt_bf16_f32 : FVec Ideal S2048x2048 .bf16) := by
  dsimp only [V, List.flatten_cons, List.flatten_nil, List.append_nil, hostOps0, hostOps0_1, hostOps0_2, hostOps0_3, hostOps0_4, List.cons_append, List.nil_append]
  after_results

/-- The gains the launch reads. -/
theorem lg_eq (c : Dev nD) : V m c main_v6 = (shapeCast S1x2048 (lg m c) shapeCasts_S2048_S1x2048 : FVec Ideal S1x2048 .f32) := by
  dsimp only [V, List.flatten_cons, List.flatten_nil, List.append_nil, hostOps0, hostOps0_1, hostOps0_2, hostOps0_3, hostOps0_4, List.cons_append, List.nil_append]
  after_results; rfl

/-- The shifts the launch reads. -/
theorem lb_eq (c : Dev nD) : V m c main_v7 = (shapeCast S1x2048 (lb m c) shapeCasts_S2048_S1x2048 : FVec Ideal S1x2048 .f32) := by
  dsimp only [V, List.flatten_cons, List.flatten_nil, List.append_nil, hostOps0, hostOps0_1, hostOps0_2, hostOps0_3, hostOps0_4, List.cons_append, List.nil_append]
  after_results; rfl

/-- The routers' weights the launch reads. -/
theorem rwt_eq (c : Dev nD) : V m c main_v1 = rwt (wg m c) (we m c) := by
  dsimp only [V, List.flatten_cons, List.flatten_nil, List.append_nil, hostOps0, hostOps0_1, hostOps0_2, hostOps0_3, hostOps0_4, List.cons_append, List.nil_append]
  after_results; rfl

/-- The routers' biases the launch reads. -/
theorem rbs_eq (c : Dev nD) : V m c main_v4 = (shapeCast S1x128 (rbs (bg m c) (be m c)) shapeCasts_S128_S1x128 : FVec Ideal S1x128 .f32) := by
  dsimp only [V, List.flatten_cons, List.flatten_nil, List.append_nil, hostOps0, hostOps0_1, hostOps0_2, hostOps0_3, hostOps0_4, List.cons_append, List.nil_append]
  after_results; rfl

/-- Every point's block of each of the ten arrays. -/
theorem idx_at : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![0, 0] ∧ win0_7.index t = ![t.val, 0] ∧ win0_8.index t = ![t.val, 0] ∧ win0_9.index t = ![t.val, 0] :=
  (by decide +kernel : ∀ t : Fin grid0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![0, 0] ∧ win0_7.index t = ![t.val, 0] ∧ win0_8.index t = ![t.val, 0] ∧ win0_9.index t = ![t.val, 0])

/-- A point's block of the merged rows, at coordinates. -/
theorem read_ms (c : Dev nD) (t : Fin cfg0.N) (r : Fin 256) (k : Fin 2048) (h : t.val * 256 + r.val < 16384) :
    iblk m c 0 t (ix2 r k) = ms m c (ix2 ⟨t.val * 256 + r.val, h⟩ k) := by
  have e : (win0_0.blk t).view.emb (ix2 r k) = (ix2 (⟨t.val * 256 + r.val, h⟩ : Fin 16384) k : S16384x2048.Idx) := by
    blk_ext [idx_at t]
  blk_simp [iblk]
  rw [e, V_main_arg0]

/-- A point's block of the residual rows, at coordinates. -/
theorem read_xs (c : Dev nD) (t : Fin cfg0.N) (r : Fin 256) (k : Fin 2048) (h : t.val * 256 + r.val < 16384) :
    iblk m c 1 t (ix2 r k) = xs m c (ix2 ⟨t.val * 256 + r.val, h⟩ k) := by
  have e : (win0_1.blk t).view.emb (ix2 r k) = (ix2 (⟨t.val * 256 + r.val, h⟩ : Fin 16384) k : S16384x2048.Idx) := by
    blk_ext [idx_at t]
  blk_simp [iblk]
  rw [e, V_main_arg1]

/-- A point's block of the output projection's weights, at coordinates. -/
theorem read_wo (c : Dev nD) (t : Fin cfg0.N) (k l : Fin 2048) : iblk m c 2 t (ix2 k l) = wo m c (ix2 k l) := by
  have e : (win0_2.blk t).view.emb (ix2 k l) = (ix2 k l : S2048x2048.Idx) := by
    blk_ext [idx_at t]
  blk_simp [iblk]
  rw [e, wo_eq]
  rfl

/-- A point's block of the gains, at coordinates. -/
theorem read_lg (c : Dev nD) (t : Fin cfg0.N) (k : Fin 2048) : iblk m c 3 t (ix2 (0 : Fin 1) k) = lg m c (ix1 k) := by
  have e : (win0_3.blk t).view.emb (ix2 (0 : Fin 1) k) = (ix2 (0 : Fin 1) k : S1x2048.Idx) := by
    blk_ext [idx_at t]
  blk_simp [iblk]
  rw [e, lg_eq]
  pointwise

/-- A point's block of the shifts, at coordinates. -/
theorem read_lb (c : Dev nD) (t : Fin cfg0.N) (k : Fin 2048) : iblk m c 4 t (ix2 (0 : Fin 1) k) = lb m c (ix1 k) := by
  have e : (win0_4.blk t).view.emb (ix2 (0 : Fin 1) k) = (ix2 (0 : Fin 1) k : S1x2048.Idx) := by
    blk_ext [idx_at t]
  blk_simp [iblk]
  rw [e, lb_eq]
  pointwise

/-- A point's block of the routers' weights, at coordinates. -/
theorem read_rw (c : Dev nD) (t : Fin cfg0.N) (k : Fin 2048) (l : Fin 128) : iblk m c 5 t (ix2 k l) = rwt (wg m c) (we m c) (ix2 k l) := by
  have e : (win0_5.blk t).view.emb (ix2 k l) = (ix2 k l : S2048x128.Idx) := by
    blk_ext [idx_at t]
  blk_simp [iblk]
  rw [e, rwt_eq]

/-- A point's block of the routers' biases, at coordinates. -/
theorem read_rb (c : Dev nD) (t : Fin cfg0.N) (l : Fin 128) : iblk m c 6 t (ix2 (0 : Fin 1) l) = rbs (bg m c) (be m c) (ix1 l) := by
  have e : (win0_6.blk t).view.emb (ix2 (0 : Fin 1) l) = (ix2 (0 : Fin 1) l : S1x128.Idx) := by
    blk_ext [idx_at t]
  blk_simp [iblk]
  rw [e, rbs_eq]
  pointwise

/-- What one point stores of the normed rows, of its blocks, at a row and a column of its block. -/
theorem stored (x : Vec Ideal S256x2048 .f32) (a : Vec Ideal S256x2048 .bf16) (p : Vec Ideal S2048x2048 .bf16)
    (w : Vec Ideal S1x2048 .f32) (u : Vec Ideal S1x2048 .f32) (r : Fin 256) (l : Fin 2048) :
    k0_pay2 x a p w u (ix2 r l)
      = rowNorm (fun k => Ideal.ofBits .f32 0x3FD744FD#32 * x (ix2 r k) + ∑ j : Fin 2048, a (ix2 r j) * p (ix2 j k))
          (w (ix2 0 l)) (u (ix2 0 l)) l := by
  unfold rowNorm mean
  pointwise [k0_pay2]

/-- The reference's normed rows at a row and a column. -/
theorem want_at (a : FVec Ideal S16384x2048 .bf16) (x : FVec Ideal S16384x2048 .f32) (p : FVec Ideal S2048x2048 .f32) (w u : FVec Ideal S2048 .f32)
    (R : Fin 16384) (l : Fin 2048) :
    Cert.OutProjRefIdeal.Read.val_main_v28 (F := Ideal) a x p w u (ix2 R l)
      = rowNorm (fun k => Ideal.ofBits .f32 0x3FD744FD#32 * x (ix2 R k) + ∑ j : Fin 2048, a (ix2 R j) * p (ix2 j k))
          (w (ix1 l)) (u (ix1 l)) l := by
  unfold rowNorm mean
  pointwise [Cert.OutProjRefIdeal.Read.val_main_v28, Cert.OutProjRefIdeal.Read.val_main_v27, Cert.OutProjRefIdeal.Read.val_main_v26, Cert.OutProjRefIdeal.Read.val_main_v25, Cert.OutProjRefIdeal.Read.val_main_v24, Cert.OutProjRefIdeal.Read.val_main_v23, Cert.OutProjRefIdeal.Read.val_main_v22, Cert.OutProjRefIdeal.Read.val_main_v21, Cert.OutProjRefIdeal.Read.val_main_v20, Cert.OutProjRefIdeal.Read.val_main_v19, Cert.OutProjRefIdeal.Read.val_main_v18, Cert.OutProjRefIdeal.Read.val_main_v17, Cert.OutProjRefIdeal.Read.val_main_v16, Cert.OutProjRefIdeal.Read.val_main_v15, Cert.OutProjRefIdeal.Read.val_main_v14, Cert.OutProjRefIdeal.Read.val_main_v13, Cert.OutProjRefIdeal.Read.val_main_v12, Cert.OutProjRefIdeal.Read.val_main_v11, Cert.OutProjRefIdeal.Read.val_main_v10, Cert.OutProjRefIdeal.Read.val_main_v9, Cert.OutProjRefIdeal.Read.val_main_v8, Cert.OutProjRefIdeal.Read.val_main_v7, Cert.OutProjRefIdeal.Read.val_main_v6, Cert.OutProjRefIdeal.Read.val_main_v5, Cert.OutProjRefIdeal.Read.val_main_v4, Cert.OutProjRefIdeal.Read.val_main_v3, Cert.OutProjRefIdeal.Read.val_main_v2, Cert.OutProjRefIdeal.Read.val_main_v1, Cert.OutProjRefIdeal.Read.val_main_v0, Cert.OutProjRefIdeal.Read.val_main_cst, Cert.OutProjRefIdeal.Read.val_main_cst_0, Cert.OutProjRefIdeal.Read.val_main_cst_1, Cert.OutProjRefIdeal.Read.val_main_cst_2, Cert.OutProjRefIdeal.Read.val_main_cst_3, Cert.OutProjRefIdeal.Read.val_main_cst_4]

/-- What one point stores is the reference's normed row where it lies. -/
theorem point_at (c : Dev nD) (t : Fin cfg0.N) (r : Fin 256) (l : Fin 2048) (h : t.val * 256 + r.val < 16384) :
    k0_pay2 (iblk m c 1 t) (iblk m c 0 t) (iblk m c 2 t) (iblk m c 3 t) (iblk m c 4 t) (ix2 r l) = want0 m c (ix2 ⟨t.val * 256 + r.val, h⟩ l) := by
  have w := want_at (ms m c) (xs m c) (wo m c) (lg m c) (lb m c) ⟨t.val * 256 + r.val, h⟩ l
  have s := stored (iblk m c 1 t) (iblk m c 0 t) (iblk m c 2 t) (iblk m c 3 t) (iblk m c 4 t) r l
  refine s.trans (Eq.trans ?_ w.symm)
  refine rowNorm_congr (fun k => ?_) (read_lg m c t l) (read_lb m c t l) l
  refine congrArg₂ (fun p q : EReal => p + q) (congrArg (fun p : EReal => Ideal.ofBits .f32 0x3FD744FD#32 * p) (read_xs m c t r k h)) ?_
  exact Finset.sum_congr rfl fun j _ => congrArg₂ (fun p q : EReal => p * q) (read_ms m c t r j h) (read_wo m c t j k)

/-- The same at any index of the block. -/
theorem point0 (c : Dev nD) (t : Fin cfg0.N) (y : S256x2048.Idx) :
    k0_pay2 (iblk m c 1 t) (iblk m c 0 t) (iblk m c 2 t) (iblk m c 3 t) (iblk m c 4 t) y = want0 m c (((cfg0.win 7).blk t).view.emb y) := by
  idx_vars y
  have ht : t.val < 64 := t.isLt
  refine (point_at m c t _ _ (by omega)).trans (congrArg _ (Eq.symm ?_))
  blk_simp
  blk_ext [idx_at t]

/-- What one point stores of the cast rows. -/
theorem point1 (c : Dev nD) (t : Fin cfg0.N) (y : S256x2048.Idx) :
    k0_pay3 (iblk m c 1 t) (iblk m c 0 t) (iblk m c 2 t) (iblk m c 3 t) (iblk m c 4 t) y = want1 m c (((cfg0.win 8).blk t).view.emb y) := by
  have e : (((cfg0.win 8).blk t).view.emb y : S16384x2048.Idx) = ((cfg0.win 7).blk t).view.emb y := by
    idx_vars y
    blk_simp
    blk_ext [idx_at t]
  rw [e]
  exact point0 m c t y

/-- A router's score: the product of a row with a column of weights, and the bias. -/
def score (f w : Fin 2048 → EReal) (b : EReal) : EReal := (∑ k, f k * w k) + b

/-- Equal rows, columns and biases give equal scores. -/
theorem score_congr {f f' w w' : Fin 2048 → EReal} {b b' : EReal} (hf : ∀ k, f k = f' k) (hw : ∀ k, w k = w' k) (hb : b = b') :
    score f w b = score f' w' b' := by
  obtain rfl : f = f' := funext hf
  obtain rfl : w = w' := funext hw
  rw [hb]

/-- A column of zeros without bias scores zero, whatever the row is. -/
theorem score_zero (f : Fin 2048 → EReal) : score f (fun _ => 0) 0 = 0 := by
  simp [score]

/-- What one point stores of the scores, of its rows and the routers' blocks. -/
theorem stored2 (z : Vec Ideal S256x2048 .f32) (w : Vec Ideal S2048x128 .f32) (b : Vec Ideal S1x128 .f32) (r : Fin 256) (l : Fin 128) :
    k0_pay1 z w b (ix2 r l) = score (fun k => z (ix2 r k)) (fun k => w (ix2 k l)) (b (ix2 0 l)) := by
  unfold score
  pointwise [k0_pay1]

/-- A point's scores, by the reference's normed rows. -/
theorem scores (c : Dev nD) (t : Fin cfg0.N) (r : Fin 256) (l : Fin 128) (h : t.val * 256 + r.val < 16384) :
    k0_pay1 (k0_pay2 (iblk m c 1 t) (iblk m c 0 t) (iblk m c 2 t) (iblk m c 3 t) (iblk m c 4 t)) (iblk m c 5 t) (iblk m c 6 t) (ix2 r l)
      = score (fun k => want0 m c (ix2 ⟨t.val * 256 + r.val, h⟩ k)) (fun k => rwt (wg m c) (we m c) (ix2 k l)) (rbs (bg m c) (be m c) (ix1 l)) :=
  (stored2 (k0_pay2 (iblk m c 1 t) (iblk m c 0 t) (iblk m c 2 t) (iblk m c 3 t) (iblk m c 4 t)) (iblk m c 5 t) (iblk m c 6 t) r l).trans
    (score_congr (fun k => point_at m c t r k h) (fun k => read_rw m c t k l) (read_rb m c t l))

section Reference

variable (x0 : FVec Ideal S16384x2048 .bf16) (x1 : FVec Ideal S16384x2048 .f32) (x2 : FVec Ideal S2048x2048 .f32) (x3 x4 : FVec Ideal S2048 .f32)
  (x5 : FVec Ideal S2048x8 .f32) (x6 : FVec Ideal S8 .f32) (x7 : FVec Ideal S2048x64 .f32) (x8 : FVec Ideal S64 .f32) (R : Fin 16384)

/-- The reference's group scores. -/
theorem group_at (l : Fin 8) : Cert.OutProjRefIdeal.Read.val_main_v32 (F := Ideal) x0 x1 x2 x3 x4 x5 x6 (ix2 R l)
    = score (fun k => Cert.OutProjRefIdeal.Read.val_main_v28 (F := Ideal) x0 x1 x2 x3 x4 (ix2 R k)) (fun k => x5 (ix2 k l)) (x6 (ix1 l)) := by
  unfold Cert.OutProjRefIdeal.Read.val_main_v32 Cert.OutProjRefIdeal.Read.val_main_v29 score
  generalize Cert.OutProjRefIdeal.Read.val_main_v28 (F := Ideal) x0 x1 x2 x3 x4 = z
  pointwise [Cert.OutProjRefIdeal.Read.val_main_v31, Cert.OutProjRefIdeal.Read.val_main_v30]

/-- The reference's expert scores. -/
theorem expert_at (l : Fin 64) : Cert.OutProjRefIdeal.Read.val_main_v36 (F := Ideal) x0 x1 x2 x3 x4 x7 x8 (ix2 R l)
    = score (fun k => Cert.OutProjRefIdeal.Read.val_main_v28 (F := Ideal) x0 x1 x2 x3 x4 (ix2 R k)) (fun k => x7 (ix2 k l)) (x8 (ix1 l)) := by
  unfold Cert.OutProjRefIdeal.Read.val_main_v36 Cert.OutProjRefIdeal.Read.val_main_v33 score
  generalize Cert.OutProjRefIdeal.Read.val_main_v28 (F := Ideal) x0 x1 x2 x3 x4 = z
  pointwise [Cert.OutProjRefIdeal.Read.val_main_v35, Cert.OutProjRefIdeal.Read.val_main_v34]

/-- The reference's first eight columns. -/
theorem want_group (l : Fin 8) (h : l.val < 128) : Cert.OutProjRefIdeal.Read.val_main_v39 (F := Ideal) x0 x1 x2 x3 x4 x5 x6 x7 x8 (ix2 R ⟨l.val, h⟩)
    = Cert.OutProjRefIdeal.Read.val_main_v32 (F := Ideal) x0 x1 x2 x3 x4 x5 x6 (ix2 R l) := by
  unfold Cert.OutProjRefIdeal.Read.val_main_v39 Cert.OutProjRefIdeal.Read.val_main_v37
  refine (pad_apply_of_inside _ _ _ _ _ _ _ _ (ix2 R (⟨l.val, by omega⟩ : Fin 72) : Cert.OutProjRefIdeal.S16384x72.Idx) fun x => ?_).trans ?_
  · fin_cases x <;> simp [ix2]
  · refine concatenate_pair_apply_left (t := Cert.OutProjRefIdeal.S16384x72) (s₁ := Cert.OutProjRefIdeal.S16384x8) (s₂ := Cert.OutProjRefIdeal.S16384x64) 1 _ _ _ _ rfl (ix2 R l) fun x => ?_
    fin_cases x <;> simp [ix2]

/-- The reference's next sixty-four columns. -/
theorem want_expert (l : Fin 64) (h : 8 + l.val < 128) : Cert.OutProjRefIdeal.Read.val_main_v39 (F := Ideal) x0 x1 x2 x3 x4 x5 x6 x7 x8 (ix2 R ⟨8 + l.val, h⟩)
    = Cert.OutProjRefIdeal.Read.val_main_v36 (F := Ideal) x0 x1 x2 x3 x4 x7 x8 (ix2 R l) := by
  unfold Cert.OutProjRefIdeal.Read.val_main_v39 Cert.OutProjRefIdeal.Read.val_main_v37
  refine (pad_apply_of_inside _ _ _ _ _ _ _ _ (ix2 R (⟨8 + l.val, by omega⟩ : Fin 72) : Cert.OutProjRefIdeal.S16384x72.Idx) fun x => ?_).trans ?_
  · fin_cases x <;> simp [ix2]
  · refine concatenate_pair_apply_right (t := Cert.OutProjRefIdeal.S16384x72) (s₁ := Cert.OutProjRefIdeal.S16384x8) (s₂ := Cert.OutProjRefIdeal.S16384x64) 1 _ _ _ _ rfl rfl (ix2 R l) (fun x hx => ?_) ?_
    · fin_cases x
      · simp [ix2]
      · exact absurd rfl hx
    · show l.val + 8 = 8 + l.val
      omega

/-- The reference's other columns are zero. -/
theorem want_none (l : Fin 128) (h : 72 ≤ l.val) : Cert.OutProjRefIdeal.Read.val_main_v39 (F := Ideal) x0 x1 x2 x3 x4 x5 x6 x7 x8 (ix2 R l) = 0 := by
  unfold Cert.OutProjRefIdeal.Read.val_main_v39
  refine (pad_apply_of_not_inside _ _ _ _ _ _ _ _ 1 fun hx => ?_).trans (fill_at _)
  have h2 := hx.2.2
  have h3 : (l.val - 0) / (0 + 1) < 72 := h2
  omega

end Reference

/-- What one point stores of the scores is the reference's where it lies. -/
theorem point2_at (c : Dev nD) (t : Fin cfg0.N) (r : Fin 256) (l : Fin 128) (h : t.val * 256 + r.val < 16384) :
    k0_pay1 (k0_pay2 (iblk m c 1 t) (iblk m c 0 t) (iblk m c 2 t) (iblk m c 3 t) (iblk m c 4 t)) (iblk m c 5 t) (iblk m c 6 t) (ix2 r l)
      = want2 m c (ix2 ⟨t.val * 256 + r.val, h⟩ l) := by
  refine (scores m c t r l h).trans ?_
  obtain ⟨l, hl⟩ := l
  by_cases h8 : l < 8
  · refine Eq.trans ?_ ((want_group (ms m c) (xs m c) (wo m c) (lg m c) (lb m c) (wg m c) (bg m c) (we m c) (be m c) ⟨t.val * 256 + r.val, h⟩ ⟨l, h8⟩ hl).trans (group_at (ms m c) (xs m c) (wo m c) (lg m c) (lb m c) (wg m c) (bg m c) _ _)).symm
    exact score_congr (fun k => rfl) (fun k => rw_group _ _ k ⟨l, h8⟩ hl) (rb_group _ _ ⟨l, h8⟩ hl)
  · by_cases h72 : l < 72
    · obtain ⟨j, rfl⟩ : ∃ j, l = 8 + j := ⟨l - 8, by omega⟩
      have hj : j < 64 := by omega
      refine Eq.trans ?_ ((want_expert (ms m c) (xs m c) (wo m c) (lg m c) (lb m c) (wg m c) (bg m c) (we m c) (be m c) ⟨t.val * 256 + r.val, h⟩ ⟨j, hj⟩ hl).trans (expert_at (ms m c) (xs m c) (wo m c) (lg m c) (lb m c) (we m c) (be m c) _ _)).symm
      exact score_congr (fun k => rfl) (fun k => rw_expert _ _ k ⟨j, hj⟩ hl) (rb_expert _ _ ⟨j, hj⟩ hl)
    · refine Eq.trans ?_ (want_none (ms m c) (xs m c) (wo m c) (lg m c) (lb m c) (wg m c) (bg m c) (we m c) (be m c) ⟨t.val * 256 + r.val, h⟩ ⟨l, hl⟩ (by simp; omega)).symm
      refine (score_congr (fun k => rfl) (fun k => rw_none _ _ k ⟨l, hl⟩ (by simp; omega)) (rb_none _ _ ⟨l, hl⟩ (by simp; omega))).trans ?_
      exact score_zero _

/-- The same at any index of the block. -/
theorem point2 (c : Dev nD) (t : Fin cfg0.N) (y : S256x128.Idx) :
    k0_pay1 (k0_pay2 (iblk m c 1 t) (iblk m c 0 t) (iblk m c 2 t) (iblk m c 3 t) (iblk m c 4 t)) (iblk m c 5 t) (iblk m c 6 t) y
      = want2 m c (((cfg0.win 9).blk t).view.emb y) := by
  idx_vars y
  have ht : t.val < 64 := t.isLt
  refine (point2_at m c t _ _ (by omega)).trans (congrArg _ (Eq.symm ?_))
  blk_simp
  blk_ext [idx_at t]

/-- The first array after the run is the reference's. -/
theorem final0 (c : Dev nD) : (dats m 0 c).arrAt 7 cfg0.N = want0 m c := by
  refine (dats m 0 c).arrAt_eq_of_covers 7 _ (by decide +kernel) fun t _ y => ?_
  blk_simp
  rw [after0_7]; frame_out
  exact point0 m c t y

/-- So is the second. -/
theorem final1 (c : Dev nD) : (dats m 0 c).arrAt 8 cfg0.N = want1 m c := by
  refine (dats m 0 c).arrAt_eq_of_covers 8 _ (by decide +kernel) fun t _ y => ?_
  blk_simp
  rw [after0_8]; frame_out
  exact point1 m c t y

/-- And the third. -/
theorem final2 (c : Dev nD) : (dats m 0 c).arrAt 9 cfg0.N = want2 m c := by
  refine (dats m 0 c).arrAt_eq_of_covers 9 _ (by decide +kernel) fun t _ y => ?_
  blk_simp
  rw [after0_9]; frame_out
  exact point2 m c t y

end Cert.OutProjIdeal.Own

end
-- ==== Proof.OutProjClaims.lean ====
/- The claims about the output projection, its layer norm and the router's scores, from its value and the reference's run. -/
module

public import proofs.«01_k».proof.Defs
public import proofs.«01_k».proof.Proof.Gen.OutProj.Frame
public import proofs.«01_k».proof.Proof.OutProj
public import Idealize.ShloMosaic.Lib.Quiescent

@[expose] public section

set_option maxRecDepth 16384

noncomputable section

open Idealize.ShloMosaic Idealize.ShloMosaic.TcCoe Idealize.SL.Sem

namespace Cert.OutProjOwn

/-- The program as written ends with its arguments as they were. -/
theorem frame_p : Cert.quiescent_OutProj := fun m ρ _ => Cert.OutProj.Gen.frame m ρ

/-- So does the program over the extended reals. -/
theorem frame_i : Cert.quiescent_OutProjIdeal := fun m ρ _ => Cert.OutProjIdeal.Gen.frame m ρ

/-- So does the reference. -/
theorem frame_r : Cert.quiescent_OutProjRefIdeal := fun m ρ _ =>
  (θ_run Cert.OutProjRefIdeal.defs _ _).mono (fun r h => ⟨fun c => (h c).2.2.2,
      Idealize.ShloMosaic.sem_eq_zero_of_no_sems (by decide) r.2⟩)
    (Cert.OutProjRefIdeal.Value.run (F := Ideal) m ρ)

/-- The kernel's three arrays are the reference's. -/
theorem algebraic : Cert.algebraic_OutProjIdeal_OutProjRefIdeal := by
  intro m ρ m' ρ' _ hagree
  refine ⟨fun c => Cert.OutProjIdeal.Own.want0 m c, fun c => Cert.OutProjIdeal.Own.want1 m c, fun c => Cert.OutProjIdeal.Own.want2 m c, ?_, ?_⟩
  · exact (θ_run Cert.OutProjIdeal.defs _ _).mono
      (fun _ h c => ⟨(h c).1.trans (Cert.OutProjIdeal.Own.final0 m c), (h c).2.1.trans (Cert.OutProjIdeal.Own.final1 m c), (h c).2.2.1.trans (Cert.OutProjIdeal.Own.final2 m c), (h c).2.2.2⟩)
      (Cert.OutProjIdeal.Value.run_blocks (F := Ideal) m ρ)
  · refine (θ_run Cert.OutProjRefIdeal.defs _ _).mono (fun _ h c => ⟨(h c).1.trans ?_, (h c).2.1.trans ?_, (h c).2.2.1.trans ?_, (h c).2.2.2⟩)
      (Cert.OutProjRefIdeal.Value.run (F := Ideal) m' ρ')
    · rw [(hagree c).1, (hagree c).2.1, (hagree c).2.2.1, (hagree c).2.2.2.1, (hagree c).2.2.2.2.1]
      exact Cert.OutProjRefIdeal.Read.val_main_v28_eq _ _ _ _ _
    · rw [(hagree c).1, (hagree c).2.1, (hagree c).2.2.1, (hagree c).2.2.2.1, (hagree c).2.2.2.2.1]
      exact Cert.OutProjRefIdeal.Read.val_main_v38_eq _ _ _ _ _
    · refine (Cert.OutProjRefIdeal.Read.val_main_v39_eq (F := Ideal) m' c).trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

end Cert.OutProjOwn

end
-- ==== Proof.ExpertsRef.lean ====
/- The experts' reference at an index: its row through the three matrices its block's number names. -/
module

public import proofs.«01_k».proof.Proof.Gen.ExpertsRefIdeal.Read
public import Idealize.ShloMosaic.Lib.Pipeline.ValueKit
public import Idealize.ShloMosaic.Lib.StableHlo.Predicate

@[expose] public section

set_option maxRecDepth 16384

noncomputable section

open Idealize.ShloMosaic Idealize.ShloMosaic.TcCoe Idealize.SL.Sem

namespace Cert.ExpertsRefIdeal.Own

/-- Whole blocks taken from the first axis of three. -/
abbrev blockDims (N M A B : Nat)
    (wf : GatherDims.WF ⟨3, ![N, A, B]⟩ ⟨2, ![M, 1]⟩ ⟨3, ![M, A, B]⟩ [1, 2] [0] [] [0] [] 1 ![1, A, B]) :
    GatherDims ⟨3, ![N, A, B]⟩ ⟨2, ![M, 1]⟩ ⟨3, ![M, A, B]⟩ where
  offsetDims := [1, 2]
  collapsedSliceDims := [0]
  operandBatchingDims := []
  startIndicesBatchingDims := []
  startIndexMap := [0]
  indexVectorDim := 1
  sliceSizes := ![1, A, B]
  wf := wf

/-- A taken block read at coordinates: the block at the number, clamped to the last. -/
theorem gather_blocks {α : Type} {N M A B w : Nat} (hN : 0 < N)
    (wf : GatherDims.WF ⟨3, ![N, A, B]⟩ ⟨2, ![M, 1]⟩ ⟨3, ![M, A, B]⟩ [1, 2] [0] [] [0] [] 1 ![1, A, B])
    (x : (⟨3, ![N, A, B]⟩ : Shape).Idx → α) (idx : IVec ⟨2, ![M, 1]⟩ w) (p : Fin M) (q : Fin A) (r : Fin B) :
    Host.gather (blockDims N M A B wf) x idx (ix3 p q r)
      = x (ix3 ⟨min (idx (ix2 p 0)).toInt.toNat (N - 1), by omega⟩ q r) := by
  unfold Host.gather
  congr 1
  funext a
  refine Fin.ext ?_
  show (blockDims N M A B wf).start (ix3 p q r) idx a + (blockDims N M A B wf).batchCoord (ix3 p q r) a
      + (blockDims N M A B wf).offCoord (ix3 p q r) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rw [GatherDims.batchCoord_eq_zero _ _ _ (fun h => by simp at h)]
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (blockDims N M A B wf).startIndexMap from List.mem_singleton.mpr rfl)]
    have hsi : (blockDims N M A B wf).siIdx (ix3 p q r) ⟨List.idxOf (0 : Fin 3) (blockDims N M A B wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  · unfold GatherDims.start
    rw [dif_neg (show ¬ (1 : Fin 3) ∈ (blockDims N M A B wf).startIndexMap from fun h => by simp at h)]
    simp only [Nat.zero_add]
    unfold GatherDims.offCoord
    rw [dif_pos (show (1 : Fin 3) ∈ (blockDims N M A B wf).sKept from (GatherDims.mem_sKept _ _).mpr ⟨fun h => by simp at h, fun h => by simp at h⟩)]
    rfl
  · unfold GatherDims.start
    rw [dif_neg (show ¬ (2 : Fin 3) ∈ (blockDims N M A B wf).startIndexMap from fun h => by simp at h)]
    simp only [Nat.zero_add]
    unfold GatherDims.offCoord
    rw [dif_pos (show (2 : Fin 3) ∈ (blockDims N M A B wf).sKept from (GatherDims.mem_sKept _ _).mpr ⟨fun h => by simp at h, fun h => by simp at h⟩)]
    rfl

/-- A number that is not negative is not moved. -/
theorem unmoved (a z : BitVec 32) (h : a.toNat < 64) : Scalar.select (IntOp.cmpi .slt a 0#32) z a = a := by
  have n : ¬ IntOp.cmpi .slt a 0#32 = 1#1 := by
    rw [StableHlo.Predicate.slt_iff_toNat (by omega) (by decide)]
    simp
  unfold Scalar.select
  exact if_neg n

/-- A number below 64, read signed and clamped to 63, is itself. -/
theorem clamped (a : BitVec 32) (h : a.toNat < 64) : min a.toInt.toNat (64 - 1) = a.toNat := by
  rw [StableHlo.Predicate.toInt_eq_toNat_of_lt (by omega), Int.toNat_natCast]
  omega

open Cert.ExpertsRefIdeal Cert.ExpertsRefIdeal.Gen Cert.ExpertsRefIdeal.Read

/-- The gates' matrices taken, at coordinates. -/
theorem gate_at (b : IVec S192 32) (w : FVec Ideal S64x2048x384 .f32) (hb : ∀ n, (b n).toNat < 64) (p : Fin 192) (q : Fin 2048) (r : Fin 384) :
    val_main_v8 (F := Ideal) b w (ix3 p q r) = w (ix3 ⟨(b (ix1 p)).toNat, hb _⟩ q r) := by
  have e : val_main_v7 (F := Ideal) b (ix2 p 0) = b (ix1 p) := by
    rw [val_main_v7_apply, val_main_v6_apply, val_main_v3_apply, val_main_v2_apply, val_main_c_apply]
    have i : idx_main_v7 (ix2 p 0) = (ix1 p : S192.Idx) := by funext a; fin_cases a; rfl
    rw [i]
    exact unmoved _ _ (hb _)
  unfold val_main_v8
  refine (gather_blocks (N := 64) (M := 192) (A := 2048) (B := 384) (by decide) _ w (val_main_v7 (F := Ideal) b) p q r).trans ?_
  congr 2
  apply Fin.ext
  exact (congrArg (fun a : BitVec 32 => min a.toInt.toNat (64 - 1)) e).trans (clamped _ (hb _))

/-- The middle matrices taken, at coordinates. -/
theorem up_at (b : IVec S192 32) (w : FVec Ideal S64x2048x384 .f32) (hb : ∀ n, (b n).toNat < 64) (p : Fin 192) (q : Fin 2048) (r : Fin 384) :
    val_main_v17 (F := Ideal) b w (ix3 p q r) = w (ix3 ⟨(b (ix1 p)).toNat, hb _⟩ q r) :=
  gate_at b w hb p q r

/-- The last matrices taken, at coordinates. -/
theorem down_at (b : IVec S192 32) (w : FVec Ideal S64x384x2048 .f32) (hb : ∀ n, (b n).toNat < 64) (p : Fin 192) (q : Fin 384) (r : Fin 2048) :
    val_main_v26 (F := Ideal) b w (ix3 p q r) = w (ix3 ⟨(b (ix1 p)).toNat, hb _⟩ q r) := by
  have e : val_main_v25 (F := Ideal) b (ix2 p 0) = b (ix1 p) := by
    rw [val_main_v25_apply, val_main_v24_apply, val_main_v21_apply, val_main_v20_apply, val_main_c_3_apply]
    have i : idx_main_v25 (ix2 p 0) = (ix1 p : S192.Idx) := by funext a; fin_cases a; rfl
    rw [i]
    exact unmoved _ _ (hb _)
  unfold val_main_v26
  refine (gather_blocks (N := 64) (M := 192) (A := 384) (B := 2048) (by decide) _ w (val_main_v25 (F := Ideal) b) p q r).trans ?_
  congr 2
  apply Fin.ext
  exact (congrArg (fun a : BitVec 32 => min a.toInt.toNat (64 - 1)) e).trans (clamped _ (hb _))

/-- A number times the logistic function of it. -/
def swish (x : EReal) : EReal := x * Ideal.div 1 (1 + Ideal.exp (-x))

/-- One row through an expert's three matrices, at a column of the last. -/
def ffn (x : Fin 2048 → EReal) (g u : Fin 2048 → Fin 384 → EReal) (d : Fin 384 → EReal) : EReal :=
  ∑ f : Fin 384, swish (∑ k : Fin 2048, x k * g k f) * (∑ k : Fin 2048, x k * u k f) * d f

/-- Equal rows through equal matrices are equal. -/
theorem ffn_congr {x x' : Fin 2048 → EReal} {g g' u u' : Fin 2048 → Fin 384 → EReal} {d d' : Fin 384 → EReal}
    (hx : ∀ k, x k = x' k) (hg : ∀ k f, g k f = g' k f) (hu : ∀ k f, u k f = u' k f) (hd : ∀ f, d f = d' f) :
    ffn x g u d = ffn x' g' u' d' := by
  obtain rfl : x = x' := funext hx
  obtain rfl : g = g' := funext fun k => funext (hg k)
  obtain rfl : u = u' := funext fun k => funext (hu k)
  obtain rfl : d = d' := funext hd
  rfl

/-- The rows in blocks of 256, at coordinates. -/
theorem rows_at (x : FVec Ideal S49152x2048 .bf16) (p : Fin 192) (q : Fin 256) (k : Fin 2048) (h : p.val * 256 + q.val < 49152) :
    val_main_v1 (F := Ideal) x (ix3 p q k) = x (ix2 ⟨p.val * 256 + q.val, h⟩ k) := by
  rw [val_main_v1_apply, val_main_v0_apply]
  refine Eq.trans (b := x (idx_main_v1 (ix3 p q k))) rfl (congrArg x ?_)
  funext a
  apply Fin.ext
  fin_cases a
  · show ((p.val * 256 + q.val) * 2048 + k.val) / 2048 = p.val * 256 + q.val
    omega
  · show ((p.val * 256 + q.val) * 2048 + k.val) % 2048 = k.val
    omega

/-- The gates' scores, at coordinates. -/
theorem score_at (x : FVec Ideal S49152x2048 .bf16) (b : IVec S192 32) (g : FVec Ideal S64x2048x384 .f32) (hb : ∀ n, (b n).toNat < 64)
    (p : Fin 192) (q : Fin 256) (f : Fin 384) (h : p.val * 256 + q.val < 49152) :
    val_main_v9 (F := Ideal) x b g (ix3 p q f)
      = ∑ k : Fin 2048, x (ix2 ⟨p.val * 256 + q.val, h⟩ k) * g (ix3 ⟨(b (ix1 p)).toNat, hb _⟩ k f) := by
  rw [val_main_v9_apply]
  refine Finset.sum_congr rfl fun k _ => congrArg₂ (fun a b : EReal => a * b) ?_ ?_
  · refine (congrArg _ ?_).trans (rows_at x p q k h)
    funext a; fin_cases a <;> rfl
  · refine (congrArg _ ?_).trans (gate_at b g hb p k f)
    funext a; fin_cases a <;> rfl

/-- The middle products, at coordinates. -/
theorem mid_at (x : FVec Ideal S49152x2048 .bf16) (b : IVec S192 32) (g : FVec Ideal S64x2048x384 .f32) (hb : ∀ n, (b n).toNat < 64)
    (p : Fin 192) (q : Fin 256) (f : Fin 384) (h : p.val * 256 + q.val < 49152) :
    val_main_v18 (F := Ideal) x b g (ix3 p q f)
      = ∑ k : Fin 2048, x (ix2 ⟨p.val * 256 + q.val, h⟩ k) * g (ix3 ⟨(b (ix1 p)).toNat, hb _⟩ k f) := by
  rw [val_main_v18_apply]
  refine Finset.sum_congr rfl fun k _ => congrArg₂ (fun a b : EReal => a * b) ?_ ?_
  · refine (congrArg _ ?_).trans (rows_at x p q k h)
    funext a; fin_cases a <;> rfl
  · refine (congrArg _ ?_).trans (up_at b g hb p k f)
    funext a; fin_cases a <;> rfl

/-- The number one. -/
theorem one_word : (FloatOps.ofBits (F := Ideal) .f32 0x3F800000#32 : EReal) = 1 := by
  show Ideal.ofBits .f32 0x3F800000#32 = 1
  simp [Ideal.ofBits, Ideal.ieee]
  norm_cast
  norm_num

/-- The gated middle row, at coordinates. -/
theorem hid_at (x : FVec Ideal S49152x2048 .bf16) (b : IVec S192 32) (g u : FVec Ideal S64x2048x384 .f32) (i : S192x256x384.Idx) :
    val_main_v19 (F := Ideal) x b g u i = swish (val_main_v9 (F := Ideal) x b g i) * val_main_v18 (F := Ideal) x b u i := by
  rw [val_main_v19_apply, val_main_v10_apply, val_main_call0_v5_apply, val_main_call0_v4_apply, val_main_call0_cst_0_apply,
    val_main_call0_v3_apply, val_main_call0_v2_apply, val_main_call0_cst_apply, val_main_call0_v1_apply, val_main_call0_v0_apply, one_word]
  rfl

/-- The reference at a row and a column. -/
theorem want_at (x : FVec Ideal S49152x2048 .bf16) (b : IVec S192 32) (g u : FVec Ideal S64x2048x384 .f32) (d : FVec Ideal S64x384x2048 .f32)
    (hb : ∀ n, (b n).toNat < 64) (p : Fin 192) (q : Fin 256) (l : Fin 2048) (h : p.val * 256 + q.val < 49152) :
    val_main_v28 (F := Ideal) x b g u d (ix2 ⟨p.val * 256 + q.val, h⟩ l)
      = ffn (fun k => x (ix2 ⟨p.val * 256 + q.val, h⟩ k)) (fun k f => g (ix3 ⟨(b (ix1 p)).toNat, hb _⟩ k f))
        (fun k f => u (ix3 ⟨(b (ix1 p)).toNat, hb _⟩ k f)) (fun f => d (ix3 ⟨(b (ix1 p)).toNat, hb _⟩ f l)) := by
  have i : idx_main_v28 (ix2 ⟨p.val * 256 + q.val, h⟩ l) = (ix3 p q l : S192x256x2048.Idx) := by
    funext a
    apply Fin.ext
    fin_cases a
    · show ((p.val * 256 + q.val) * 2048 + l.val) / (256 * 2048) = p.val
      omega
    · show ((p.val * 256 + q.val) * 2048 + l.val) / 2048 % 256 = q.val
      omega
    · show ((p.val * 256 + q.val) * 2048 + l.val) % 2048 = l.val
      omega
  rw [val_main_v28_apply, i, val_main_v27_apply]
  unfold ffn
  refine Finset.sum_congr rfl fun f _ => congrArg₂ (fun a b : EReal => a * b) ?_ ?_
  · refine (congrArg _ (show _ = (ix3 p q f : S192x256x384.Idx) from ?_)).trans ((hid_at x b g u (ix3 p q f)).trans ?_)
    · funext a; fin_cases a <;> rfl
    · rw [score_at x b g hb p q f h, mid_at x b u hb p q f h]
  · refine (congrArg _ (show _ = (ix3 p f l : S192x384x2048.Idx) from ?_)).trans (down_at b d hb p f l)
    funext a; fin_cases a <;> rfl

end Cert.ExpertsRefIdeal.Own

end
-- ==== Proof.Experts.lean ====
/- The experts' gated feed-forward: each block of rows through the three matrices its number names. -/
module

public import proofs.«01_k».proof.Proof.Gen.Pre_experts_named
public import proofs.«01_k».proof.Proof.Gen.ExpertsIdeal.Frame
public import proofs.«01_k».proof.Proof.ExpertsRef
public import Idealize.ShloMosaic.Lib.Pipeline.ValueKit
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.ExpertsIdeal.Own

open Cert.ExpertsIdeal Cert.ExpertsIdeal.Gen Cert.ExpertsRefIdeal.Own

/-- A word between 0 and 63, read signed, is below 64 read unsigned. -/
theorem small (a : BitVec 32) (h0 : IntOp.cmpi .sge a 0#32 = 1#1) (h1 : IntOp.cmpi .slt a 64#32 = 1#1) : a.toNat < 64 := by
  have e0 : (0#32).toInt ≤ a.toInt := by
    have := h0
    simp only [IntOp.cmpi, StableHlo.Predicate.ofBool_eq_one_iff, BitVec.sle, decide_eq_true_eq] at this
    exact this
  have e1 : a.toInt < (64#32).toInt := by
    have := h1
    simp only [IntOp.cmpi, StableHlo.Predicate.ofBool_eq_one_iff, BitVec.slt, decide_eq_true_eq] at this
    exact this
  have z0 : (0#32).toInt = 0 := by decide
  have z1 : (64#32).toInt = 64 := by decide
  have := BitVec.toInt_eq_toNat_cond a
  have hlt := a.isLt
  split at this <;> omega

/-- The precondition says of each block's number that it is below 64. -/
theorem named {F : FTy → Type} [FloatOps F] (x : FVec F S49152x2048 .bf16) (b : IVec S192 32) (g u : FVec F S64x2048x384 .f32)
    (d : FVec F S64x384x2048 .f32) (h : Cert.Pre_experts_named.fn (F := F) x b g u d = fun _ => 1#1) (n : S192.Idx) :
    (b n).toNat < 64 := by
  have h0 := congrFun h (Shape.Idx.first Cert.Pre_experts_named.Gen.h_S_)
  dsimp only [Cert.Pre_experts_named.fn] at h0
  have h1 := Host.reduce_andi_all _ _ _ _ _ h0 n
  have h2 : _ ∧ _ := IntOp.andi_eq_one.1 h1
  exact small _ h2.1 h2.2

/-- A block of one whole matrix at a number below 64 lies inside the 64 matrices. -/
theorem inside (A B n : Nat) (h : n < 64) : ∀ a : Fin 3, ((![n, 0, 0] : Fin 3 → Nat) a + 1) * (![1, A, B] : Fin 3 → Nat) a ≤ (![64, A, B] : Fin 3 → Nat) a := by
  intro a
  fin_cases a
  · show (n + 1) * 1 ≤ 64; omega
  · show (0 + 1) * A ≤ A; omega
  · show (0 + 1) * B ≤ B; omega

section
variable {F : FTy → Type} [FloatOps F] (m : (ℓ : Loc nD τ sig) → Buf (Elt F) ℓ)

/-- The blocks' numbers of the launch. -/
abbrev nums : IVec S192 32 := m (((0 : Dev nD) : Thread nD τ).loc main_arg1)

/-- With numbers below 64 every block the launch names is inside its array. -/
theorem ok_of (h : ∀ n, (nums m n).toNat < 64) : Ok m :=
  ⟨fun i => ⟨inside 2048 384 _ (h _), .inl rfl⟩, fun i => ⟨inside 2048 384 _ (h _), .inl rfl⟩, fun i => ⟨inside 384 2048 _ (h _), .inl rfl⟩⟩
end

variable (m : (ℓ : Loc nD τ sig) → Buf (Elt Ideal) ℓ) (hO : Ok m)

/-- The rows of the launch. -/
abbrev xRows (c : Dev nD) : FVec Ideal S49152x2048 .bf16 := m ((c : Thread nD τ).loc main_arg0)
/-- The gates' matrices. -/
abbrev wGate (c : Dev nD) : FVec Ideal S64x2048x384 .f32 := m ((c : Thread nD τ).loc main_arg2)
/-- The middle matrices. -/
abbrev wUp (c : Dev nD) : FVec Ideal S64x2048x384 .f32 := m ((c : Thread nD τ).loc main_arg3)
/-- The last matrices. -/
abbrev wDown (c : Dev nD) : FVec Ideal S64x384x2048 .f32 := m ((c : Thread nD τ).loc main_arg4)

/-- The point's number in the table's place. -/
theorem place_at : ∀ t : Fin grid0.N, k0_off1 (grid0.coords t) 0 = t.val := by decide +kernel

/-- Every point's block of the rows and of the result. -/
theorem rows_at : ∀ t : Fin grid0.N, cc0_transform_0 (grid0.coords t) = ![t.val, 0] ∧ cc0_transform_4 (grid0.coords t) = ![t.val, 0] := by decide +kernel

/-- The table's word at a point's place. -/
theorem word_at (t : Fin grid0.N) (ht : t.val < 192) :
    (Rect.unit (s := S192) (k0_off1 (grid0.coords t)) S1.size (k0_off1_inb (grid0.coords t))).emb (Shape.Idx.first (numel1_S1.symm ▸ Nat.one_pos))
      = (ix1 ⟨t.val, ht⟩ : S192.Idx) := by
  funext a
  apply Fin.ext
  rw [ValueKit.rect_emb_unit_val]
  fin_cases a
  have := place_at t
  show k0_off1 (grid0.coords t) 0 + _ = t.val
  rw [this]
  rfl

/-- A point's block of the rows, at coordinates. -/
theorem read_x (c : Dev nD) (t : Fin (cfgM m hO).N) (r : Fin 256) (k : Fin 2048) (h : t.val * 256 + r.val < 49152) :
    iblk m hO c 0 t (ix2 r k) = xRows m c (ix2 ⟨t.val * 256 + r.val, h⟩ k) := by
  have i : ((cfgM m hO).win 0).index t = ![t.val, 0] := (rows_at t).1
  have e : (((cfgM m hO).win 0).blk t).view.emb (ix2 r k) = (ix2 (⟨t.val * 256 + r.val, h⟩ : Fin 49152) k : S49152x2048.Idx) := by
    blk_ext [i]
  blk_simp [iblk]
  exact congrArg (xRows m c) e

/-- A point's block of the gates' matrices, at coordinates. -/
theorem read_gate (c : Dev nD) (hb : ∀ n, (nums m n).toNat < 64) (t : Fin (cfgM m hO).N) (ht : t.val < 192) (k : Fin 2048) (f : Fin 384) :
    iblk m hO c 1 t (ix3 0 k f) = wGate m c (ix3 ⟨(nums m (ix1 ⟨t.val, ht⟩)).toNat, hb _⟩ k f) := by
  have i : ((cfgM m hO).win 1).index t = ![(nums m (ix1 ⟨t.val, ht⟩)).toNat, 0, 0] :=
    congrArg (fun j : S192.Idx => (![(nums m j).toNat, 0, 0] : Fin 3 → Nat)) (word_at t ht)
  have e : (((cfgM m hO).win 1).blk t).view.emb (ix3 0 k f)
      = (ix3 (⟨(nums m (ix1 ⟨t.val, ht⟩)).toNat, hb _⟩ : Fin 64) k f : S64x2048x384.Idx) := by
    blk_ext [i]
  blk_simp [iblk]
  exact congrArg (wGate m c) e

/-- A point's block of the middle matrices, at coordinates. -/
theorem read_up (c : Dev nD) (hb : ∀ n, (nums m n).toNat < 64) (t : Fin (cfgM m hO).N) (ht : t.val < 192) (k : Fin 2048) (f : Fin 384) :
    iblk m hO c 2 t (ix3 0 k f) = wUp m c (ix3 ⟨(nums m (ix1 ⟨t.val, ht⟩)).toNat, hb _⟩ k f) := by
  have i : ((cfgM m hO).win 2).index t = ![(nums m (ix1 ⟨t.val, ht⟩)).toNat, 0, 0] :=
    congrArg (fun j : S192.Idx => (![(nums m j).toNat, 0, 0] : Fin 3 → Nat)) (word_at t ht)
  have e : (((cfgM m hO).win 2).blk t).view.emb (ix3 0 k f)
      = (ix3 (⟨(nums m (ix1 ⟨t.val, ht⟩)).toNat, hb _⟩ : Fin 64) k f : S64x2048x384.Idx) := by
    blk_ext [i]
  blk_simp [iblk]
  exact congrArg (wUp m c) e

/-- A point's block of the last matrices, at coordinates. -/
theorem read_down (c : Dev nD) (hb : ∀ n, (nums m n).toNat < 64) (t : Fin (cfgM m hO).N) (ht : t.val < 192) (k : Fin 384) (f : Fin 2048) :
    iblk m hO c 3 t (ix3 0 k f) = wDown m c (ix3 ⟨(nums m (ix1 ⟨t.val, ht⟩)).toNat, hb _⟩ k f) := by
  have i : ((cfgM m hO).win 3).index t = ![(nums m (ix1 ⟨t.val, ht⟩)).toNat, 0, 0] :=
    congrArg (fun j : S192.Idx => (![(nums m j).toNat, 0, 0] : Fin 3 → Nat)) (word_at t ht)
  have e : (((cfgM m hO).win 3).blk t).view.emb (ix3 0 k f)
      = (ix3 (⟨(nums m (ix1 ⟨t.val, ht⟩)).toNat, hb _⟩ : Fin 64) k f : S64x384x2048.Idx) := by
    blk_ext [i]
  blk_simp [iblk]
  exact congrArg (wDown m c) e

/-- The reference's array of the launch's arguments. -/
def want (c : Dev nD) : FVec Ideal S49152x2048 .f32 :=
  Cert.ExpertsRefIdeal.Read.val_main_v28 (F := Ideal) (xRows m c) (nums m) (wGate m c) (wUp m c) (wDown m c)

/-- What one point stores, of its four blocks, at a row and a column. -/
theorem stored (x : Vec Ideal S256x2048 .bf16) (g u : Vec Ideal S1x2048x384 .f32) (d : Vec Ideal S1x384x2048 .f32) (r : Fin 256) (l : Fin 2048) :
    k0_pay1 x g u d (ix2 r l)
      = ffn (fun k => x (ix2 r k)) (fun k f => g (ix3 0 k f)) (fun k f => u (ix3 0 k f)) (fun f => d (ix3 0 f l)) := by
  unfold ffn swish
  pointwise [k0_pay1]
  simp only [zero_sub]

/-- What one point stores is the reference at the array's index. -/
theorem point_at (c : Dev nD) (hb : ∀ n, (nums m n).toNat < 64) (t : Fin (cfgM m hO).N) (ht : t.val < 192) (r : Fin 256) (l : Fin 2048)
    (h : t.val * 256 + r.val < 49152) :
    k0_pay1 (iblk m hO c 0 t) (iblk m hO c 1 t) (iblk m hO c 2 t) (iblk m hO c 3 t) (ix2 r l)
      = want m c (ix2 ⟨t.val * 256 + r.val, h⟩ l) := by
  have s := stored (iblk m hO c 0 t) (iblk m hO c 1 t) (iblk m hO c 2 t) (iblk m hO c 3 t) r l
  have w := want_at (xRows m c) (nums m) (wGate m c) (wUp m c) (wDown m c) hb ⟨t.val, ht⟩ r l h
  refine s.trans (Eq.trans ?_ w.symm)
  exact ffn_congr (fun k => read_x m hO c t r k h) (fun k f => read_gate m hO c hb t ht k f) (fun k f => read_up m hO c hb t ht k f)
    (fun f => read_down m hO c hb t ht f l)

/-- The same at any index of the block. -/
theorem point (c : Dev nD) (hb : ∀ n, (nums m n).toNat < 64) (t : Fin (cfgM m hO).N) (y : S256x2048.Idx) :
    k0_pay1 (iblk m hO c 0 t) (iblk m hO c 1 t) (iblk m hO c 2 t) (iblk m hO c 3 t) y
      = want m c ((((cfgM m hO).win 4).blk t).view.emb y) := by
  idx_vars y
  have ht : t.val < 192 := t.isLt
  have i : ((cfgM m hO).win 4).index t = ![t.val, 0] := (rows_at t).2
  refine (point_at m hO c hb t ht _ _ (by omega)).trans (congrArg (want m c) (Eq.symm ?_))
  blk_ext [i]

/-- Every index of the result lies in some point's block. -/
theorem cover (i : S49152x2048.Idx) : ∃ t : Fin (cfgM m hO).N, ((cfgM m hO).win 4).flush t = true ∧ i ∈ (((cfgM m hO).win 4).blk t).view.set := by
  have h0 : (i 0).val < 49152 := (i 0).isLt
  have h1 : (i 1).val < 2048 := (i 1).isLt
  have hlt : (i 0).val / 256 < 192 := by omega
  refine ⟨⟨(i 0).val / 256, hlt⟩, flush0_4 _ _, ?_⟩
  generalize hq : (i 0).val / 256 = q at hlt
  have e : ((cfgM m hO).win 4).index ⟨q, hlt⟩ = ![q, 0] := (rows_at ⟨q, hlt⟩).2
  refine (((cfgM m hO).win 4).emb_mem_blk_iff ⟨q, hlt⟩ i rfl).mpr fun a => ?_
  rw [e]
  fin_cases a
  · show q * 256 ≤ (i 0).val ∧ (i 0).val < q * 256 + 256
    omega
  · show 0 * 2048 ≤ (i 1).val ∧ (i 1).val < 0 * 2048 + 2048
    omega

/-- What one point leaves of the result is what it stores. -/
theorem left_at (c : Dev nD) (t : Fin (cfgM m hO).N) :
    outsAt0 m hO c t = k0_pay1 (iblk m hO c 0 t) (iblk m hO c 1 t) (iblk m hO c 2 t) (iblk m hO c 3 t) := by
  unfold outsAt0
  frame_out
  exact congr (congr (congr (congrArg k0_pay1 ((hs0_0 m hO t).read_unread _)) ((hs0_1 m hO t).read_unread _)) ((hs0_2 m hO t).read_unread _))
    ((hs0_3 m hO t).read_unread _)

/-- The array after the run is the reference's. -/
theorem final (c : Dev nD) (hb : ∀ n, (nums m n).toNat < 64) : (dats m hO 0 c).arrAt 4 (cfgM m hO).N = want m c :=
  (dats m hO 0 c).arrAt_eq_of_emb 4 (want m c)
    (fun t _ y => (congrFun ((after0_4 m hO c t).trans (left_at m hO c t)) y).trans (point m hO c hb t y)) (cover m hO)

end Cert.ExpertsIdeal.Own

end
-- ==== Proof.ExpertsClaims.lean ====
/- The claims about the experts' feed-forward, from its value and the reference's run. -/
module

public import proofs.«01_k».proof.Defs
public import proofs.«01_k».proof.Proof.Gen.Experts.Frame
public import proofs.«01_k».proof.Proof.Experts
public import Idealize.ShloMosaic.Lib.Quiescent

@[expose] public section

set_option maxRecDepth 16384

noncomputable section

open Idealize.ShloMosaic Idealize.ShloMosaic.TcCoe Idealize.SL.Sem

namespace Cert.ExpertsOwn

/-- With numbers below 64 every block the program as written names is inside its array. -/
theorem ok_of {F : FTy → Type} [FloatOps F] (m : (ℓ : Loc Cert.Experts.nD Cert.Experts.τ Cert.Experts.sig) → Buf (Elt F) ℓ)
    (h : ∀ n, ((m (((0 : Dev Cert.Experts.nD) : Thread Cert.Experts.nD Cert.Experts.τ).loc Cert.Experts.main_arg1) : IVec Cert.Experts.S192 32) n).toNat < 64) :
    Cert.Experts.Gen.Ok m :=
  ⟨fun i => ⟨Cert.ExpertsIdeal.Own.inside 2048 384 _ (h _), .inl rfl⟩, fun i => ⟨Cert.ExpertsIdeal.Own.inside 2048 384 _ (h _), .inl rfl⟩,
    fun i => ⟨Cert.ExpertsIdeal.Own.inside 384 2048 _ (h _), .inl rfl⟩⟩

/-- The program as written ends with its arguments as they were. -/
theorem frame_p : Cert.quiescent_Experts := fun m ρ h =>
  Cert.Experts.Gen.frame m ρ (ok_of m (Cert.ExpertsIdeal.Own.named _ _ _ _ _ (h 0)))

/-- So does the program over the extended reals. -/
theorem frame_i : Cert.quiescent_ExpertsIdeal := fun m ρ h =>
  Cert.ExpertsIdeal.Gen.frame m ρ (Cert.ExpertsIdeal.Own.ok_of m (Cert.ExpertsIdeal.Own.named _ _ _ _ _ (h 0)))

/-- So does the reference, whatever the numbers are. -/
theorem frame_r : Cert.quiescent_ExpertsRefIdeal := fun m ρ _ =>
  (θ_run Cert.ExpertsRefIdeal.defs _ _).mono (fun r h => ⟨fun c => (h c).2,
      Idealize.ShloMosaic.sem_eq_zero_of_no_sems (by decide) r.2⟩)
    (Cert.ExpertsRefIdeal.Value.run (F := Ideal) m ρ)

/-- And under the precondition. -/
theorem frame_r_pre : Cert.quiescent_ExpertsRefIdeal_pre_experts_named := fun m ρ _ => frame_r m ρ trivial

/-- The kernel's array is the reference's. -/
theorem algebraic : Cert.algebraic_ExpertsIdeal_ExpertsRefIdeal := by
  intro m ρ m' ρ' hpre hagree
  have hb : ∀ n, (Cert.ExpertsIdeal.Own.nums m n).toNat < 64 := Cert.ExpertsIdeal.Own.named _ _ _ _ _ (hpre 0)
  have hO : Cert.ExpertsIdeal.Gen.Ok m := Cert.ExpertsIdeal.Own.ok_of m hb
  refine ⟨fun c => Cert.ExpertsIdeal.Own.want m c, ?_, ?_⟩
  · exact (θ_run Cert.ExpertsIdeal.defs _ _).mono
      (fun _ h c => ⟨((h.1 c).1 4).trans (Cert.ExpertsIdeal.Own.final m hO c hb), h.2 c⟩)
      (Idealize.ShloMosaic.θ_run_and (Cert.ExpertsIdeal.Gen.run_main (F := Ideal) m ρ hO) (Cert.ExpertsIdeal.Gen.unchanged (F := Ideal) m ρ hO))
  · refine (θ_run Cert.ExpertsRefIdeal.defs _ _).mono (fun _ h c => ⟨(h c).1.trans ?_, (h c).2⟩)
      (Cert.ExpertsRefIdeal.Value.run (F := Ideal) m' ρ')
    obtain rfl : c = 0 := Subsingleton.elim _ _
    rw [(hagree 0).1, (hagree 0).2.1, (hagree 0).2.2.1, (hagree 0).2.2.2.1, (hagree 0).2.2.2.2]
    exact Cert.ExpertsRefIdeal.Read.val_main_v28_eq _ _ _ _ _

end Cert.ExpertsOwn

end
-- ==== Proof.Combine.lean ====
/- The combination of the token's row with its two experts' rows and the layer norm after it: the tiled arrays are the
   reference's, element by element. -/
module

public import proofs.«01_k».proof.Proof.LayerNorm
public import proofs.«01_k».proof.Proof.Gen.CombineIdeal.Value
public import proofs.«01_k».proof.Proof.Gen.CombineRefIdeal.Read
public import Idealize.ShloMosaic.Lib.Pipeline.ValueKit
public import Idealize.ShloMosaic.Lib.StableHlo.RunRead
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.CombineIdeal.Own

open Cert.CombineIdeal Cert.CombineIdeal.Gen Cert.LayerNorm

variable (m : (ℓ : Loc nD τ sig) → Buf (Elt Ideal) ℓ)

/-- The tokens' rows, of the launch. -/
abbrev xs (c : Dev nD) : FVec Ideal S16384x2048 .f32 := m ((c : Thread nD τ).loc main_arg0)
/-- The first experts' rows. -/
abbrev ya (c : Dev nD) : FVec Ideal S16384x2048 .f32 := m ((c : Thread nD τ).loc main_arg1)
/-- The second experts' rows. -/
abbrev yb (c : Dev nD) : FVec Ideal S16384x2048 .f32 := m ((c : Thread nD τ).loc main_arg2)
/-- The two gates of each token. -/
abbrev gs (c : Dev nD) : FVec Ideal S16384x2 .f32 := m ((c : Thread nD τ).loc main_arg3)
/-- The norm's gains. -/
abbrev lg (c : Dev nD) : FVec Ideal S2048 .f32 := m ((c : Thread nD τ).loc main_arg4)
/-- The norm's shifts. -/
abbrev lb (c : Dev nD) : FVec Ideal S2048 .f32 := m ((c : Thread nD τ).loc main_arg5)

/-- The reference's first array, of the device's six argument arrays. -/
abbrev want0 (c : Dev nD) : FVec Ideal S16384x2048 .f32 :=
  Cert.CombineRefIdeal.Read.val_main_v33 (F := Ideal) (xs m c) (ya m c) (yb m c) (gs m c) (lg m c) (lb m c)
/-- The reference's second array, the first one cast. -/
abbrev want1 (c : Dev nD) : FVec Ideal S16384x2048 .bf16 :=
  Cert.CombineRefIdeal.Read.val_main_v34 (F := Ideal) (xs m c) (ya m c) (yb m c) (gs m c) (lg m c) (lb m c)

/-- The padded gates at one of the first two lanes are the gates. -/
theorem lanes (x : FVec Ideal S16384x2 .f32) (v : FVec Ideal S_ .f32) (R : Fin 16384) (l : Fin 2) (h : l.val < 128) :
    pad S16384x128 ![0, 0] ![0, 126] ![0, 0] x v pads_S16384x2_S16384x128_000_01260 h_S_ (ix2 R ⟨l.val, h⟩) = x (ix2 R l) := by
  refine pad_apply_of_inside _ _ _ x v _ _ _ (ix2 R l) fun a => ?_
  fin_cases a <;> simp [ix2]

/-- The padded gates the launch reads. -/
theorem gates_eq (c : Dev nD) : ∃ v : FVec Ideal S_ .f32, V m c main_v0
    = (pad S16384x128 ![0, 0] ![0, 126] ![0, 0] (gs m c) v pads_S16384x2_S16384x128_000_01260 h_S_ : FVec Ideal S16384x128 .f32) := by
  refine ⟨sitofp .f32 (constantI S_ 32 0#32 : IVec S_ 32), ?_⟩
  dsimp only [V, List.flatten_cons, List.flatten_nil, List.append_nil, hostOps0, hostOps0_1, hostOps0_2, List.cons_append, List.nil_append]
  after_results; rfl

/-- The gains the launch reads. -/
theorem lg_eq (c : Dev nD) : V m c main_v1 = (shapeCast S1x2048 (lg m c) shapeCasts_S2048_S1x2048 : FVec Ideal S1x2048 .f32) := by
  dsimp only [V, List.flatten_cons, List.flatten_nil, List.append_nil, hostOps0, hostOps0_1, hostOps0_2, List.cons_append, List.nil_append]
  after_results; rfl

/-- The shifts the launch reads. -/
theorem lb_eq (c : Dev nD) : V m c main_v2 = (shapeCast S1x2048 (lb m c) shapeCasts_S2048_S1x2048 : FVec Ideal S1x2048 .f32) := by
  dsimp only [V, List.flatten_cons, List.flatten_nil, List.append_nil, hostOps0, hostOps0_1, hostOps0_2, List.cons_append, List.nil_append]
  after_results; rfl

/-- Every point's block of each of the eight arrays. -/
theorem idx_at : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0])

/-- A point's block of the tokens' rows, at coordinates. -/
theorem read_xs (c : Dev nD) (t : Fin cfg0.N) (r : Fin 256) (k : Fin 2048) (h : t.val * 256 + r.val < 16384) :
    iblk m c 0 t (ix2 r k) = xs m c (ix2 ⟨t.val * 256 + r.val, h⟩ k) := by
  have e : (win0_0.blk t).view.emb (ix2 r k) = (ix2 (⟨t.val * 256 + r.val, h⟩ : Fin 16384) k : S16384x2048.Idx) := by
    blk_ext [idx_at t]
  blk_simp [iblk]
  rw [e, V_main_arg0]

/-- A point's block of the first experts' rows, at coordinates. -/
theorem read_ya (c : Dev nD) (t : Fin cfg0.N) (r : Fin 256) (k : Fin 2048) (h : t.val * 256 + r.val < 16384) :
    iblk m c 1 t (ix2 r k) = ya m c (ix2 ⟨t.val * 256 + r.val, h⟩ k) := by
  have e : (win0_1.blk t).view.emb (ix2 r k) = (ix2 (⟨t.val * 256 + r.val, h⟩ : Fin 16384) k : S16384x2048.Idx) := by
    blk_ext [idx_at t]
  blk_simp [iblk]
  rw [e, V_main_arg1]

/-- A point's block of the second experts' rows, at coordinates. -/
theorem read_yb (c : Dev nD) (t : Fin cfg0.N) (r : Fin 256) (k : Fin 2048) (h : t.val * 256 + r.val < 16384) :
    iblk m c 2 t (ix2 r k) = yb m c (ix2 ⟨t.val * 256 + r.val, h⟩ k) := by
  have e : (win0_2.blk t).view.emb (ix2 r k) = (ix2 (⟨t.val * 256 + r.val, h⟩ : Fin 16384) k : S16384x2048.Idx) := by
    blk_ext [idx_at t]
  blk_simp [iblk]
  rw [e, V_main_arg2]

/-- A point's block of the gates, at coordinates. -/
theorem read_gs (c : Dev nD) (t : Fin cfg0.N) (r : Fin 256) (l : Fin 2) (h : t.val * 256 + r.val < 16384) (h' : l.val < 128) :
    iblk m c 3 t (ix2 r ⟨l.val, h'⟩) = gs m c (ix2 ⟨t.val * 256 + r.val, h⟩ l) := by
  have e : (win0_3.blk t).view.emb (ix2 r ⟨l.val, h'⟩) = (ix2 (⟨t.val * 256 + r.val, h⟩ : Fin 16384) (⟨l.val, h'⟩ : Fin 128) : S16384x128.Idx) := by
    blk_ext [idx_at t]
  obtain ⟨v, hv⟩ := gates_eq m c
  blk_simp [iblk]
  rw [e, hv]
  exact lanes _ _ _ _ _

/-- A point's block of the gains, at coordinates. -/
theorem read_lg (c : Dev nD) (t : Fin cfg0.N) (k : Fin 2048) : iblk m c 4 t (ix2 (0 : Fin 1) k) = lg m c (ix1 k) := by
  have e : (win0_4.blk t).view.emb (ix2 (0 : Fin 1) k) = (ix2 (0 : Fin 1) k : S1x2048.Idx) := by
    blk_ext [idx_at t]
  blk_simp [iblk]
  rw [e, lg_eq]
  pointwise

/-- A point's block of the shifts, at coordinates. -/
theorem read_lb (c : Dev nD) (t : Fin cfg0.N) (k : Fin 2048) : iblk m c 5 t (ix2 (0 : Fin 1) k) = lb m c (ix1 k) := by
  have e : (win0_5.blk t).view.emb (ix2 (0 : Fin 1) k) = (ix2 (0 : Fin 1) k : S1x2048.Idx) := by
    blk_ext [idx_at t]
  blk_simp [iblk]
  rw [e, lb_eq]
  pointwise

/-- What one point stores, of its six blocks, at a row and a column of its block. -/
theorem stored (g : Vec Ideal S256x128 .f32) (a : Vec Ideal S256x2048 .f32) (b : Vec Ideal S256x2048 .f32)
    (x : Vec Ideal S256x2048 .f32) (w : Vec Ideal S1x2048 .f32) (u : Vec Ideal S1x2048 .f32) (r : Fin 256) (l : Fin 2048) :
    k0_pay2 g a b x w u (ix2 r l)
      = rowNorm (fun k => Ideal.ofBits .f32 0x3FD744FD#32 * x (ix2 r k) + (g (ix2 r ⟨(0 : Fin 2).val, by omega⟩) * a (ix2 r k) + g (ix2 r ⟨(1 : Fin 2).val, by omega⟩) * b (ix2 r k)))
          (w (ix2 0 l)) (u (ix2 0 l)) l := by
  unfold rowNorm mean
  pointwise [k0_pay2]

/-- The reference's first array at a row and a column. -/
theorem want_at (x a b : FVec Ideal S16384x2048 .f32) (g : FVec Ideal S16384x2 .f32) (w u : FVec Ideal S2048 .f32) (R : Fin 16384) (l : Fin 2048) :
    Cert.CombineRefIdeal.Read.val_main_v33 (F := Ideal) x a b g w u (ix2 R l)
      = rowNorm (fun k => Ideal.ofBits .f32 0x3FD744FD#32 * x (ix2 R k) + (a (ix2 R k) * g (ix2 R 0) + b (ix2 R k) * g (ix2 R 1)))
          (w (ix1 l)) (u (ix1 l)) l := by
  unfold rowNorm mean
  pointwise [Cert.CombineRefIdeal.Read.val_main_v33, Cert.CombineRefIdeal.Read.val_main_v32, Cert.CombineRefIdeal.Read.val_main_v31, Cert.CombineRefIdeal.Read.val_main_v30, Cert.CombineRefIdeal.Read.val_main_v29, Cert.CombineRefIdeal.Read.val_main_v28, Cert.CombineRefIdeal.Read.val_main_v27, Cert.CombineRefIdeal.Read.val_main_v26, Cert.CombineRefIdeal.Read.val_main_v25, Cert.CombineRefIdeal.Read.val_main_v24, Cert.CombineRefIdeal.Read.val_main_v23, Cert.CombineRefIdeal.Read.val_main_v22, Cert.CombineRefIdeal.Read.val_main_v21, Cert.CombineRefIdeal.Read.val_main_v20, Cert.CombineRefIdeal.Read.val_main_v19, Cert.CombineRefIdeal.Read.val_main_v18, Cert.CombineRefIdeal.Read.val_main_v17, Cert.CombineRefIdeal.Read.val_main_v16, Cert.CombineRefIdeal.Read.val_main_v15, Cert.CombineRefIdeal.Read.val_main_v14, Cert.CombineRefIdeal.Read.val_main_v13, Cert.CombineRefIdeal.Read.val_main_v12, Cert.CombineRefIdeal.Read.val_main_v11, Cert.CombineRefIdeal.Read.val_main_v10, Cert.CombineRefIdeal.Read.val_main_v9, Cert.CombineRefIdeal.Read.val_main_v8, Cert.CombineRefIdeal.Read.val_main_v7, Cert.CombineRefIdeal.Read.val_main_v6, Cert.CombineRefIdeal.Read.val_main_v5, Cert.CombineRefIdeal.Read.val_main_v4, Cert.CombineRefIdeal.Read.val_main_v3, Cert.CombineRefIdeal.Read.val_main_v2, Cert.CombineRefIdeal.Read.val_main_v1, Cert.CombineRefIdeal.Read.val_main_v0, Cert.CombineRefIdeal.Read.val_main_cst, Cert.CombineRefIdeal.Read.val_main_cst_0, Cert.CombineRefIdeal.Read.val_main_cst_1, Cert.CombineRefIdeal.Read.val_main_cst_2, Cert.CombineRefIdeal.Read.val_main_cst_3, Cert.CombineRefIdeal.Read.val_main_cst_4]

/-- What one point stores is the reference's first array where it lies. -/
theorem point_at (c : Dev nD) (t : Fin cfg0.N) (r : Fin 256) (l : Fin 2048) (h : t.val * 256 + r.val < 16384) :
    k0_pay2 (iblk m c 3 t) (iblk m c 1 t) (iblk m c 2 t) (iblk m c 0 t) (iblk m c 4 t) (iblk m c 5 t) (ix2 r l)
      = want0 m c (ix2 ⟨t.val * 256 + r.val, h⟩ l) := by
  have w := want_at (xs m c) (ya m c) (yb m c) (gs m c) (lg m c) (lb m c) ⟨t.val * 256 + r.val, h⟩ l
  have s := stored (iblk m c 3 t) (iblk m c 1 t) (iblk m c 2 t) (iblk m c 0 t) (iblk m c 4 t) (iblk m c 5 t) r l
  refine s.trans (Eq.trans ?_ w.symm)
  refine rowNorm_congr (fun k => ?_) (read_lg m c t l) (read_lb m c t l) l
  refine congrArg₂ (fun p q : EReal => p + q) (congrArg (fun p : EReal => Ideal.ofBits .f32 0x3FD744FD#32 * p) (read_xs m c t r k h)) (congrArg₂ (fun p q : EReal => p + q) ?_ ?_)
  · exact (congrArg₂ (fun p q : EReal => p * q) (read_gs m c t r 0 h _) (read_ya m c t r k h)).trans (mul_comm _ _)
  · exact (congrArg₂ (fun p q : EReal => p * q) (read_gs m c t r 1 h _) (read_yb m c t r k h)).trans (mul_comm _ _)

/-- The same at any index of the block. -/
theorem point0 (c : Dev nD) (t : Fin cfg0.N) (y : S256x2048.Idx) :
    k0_pay2 (iblk m c 3 t) (iblk m c 1 t) (iblk m c 2 t) (iblk m c 0 t) (iblk m c 4 t) (iblk m c 5 t) y
      = want0 m c (((cfg0.win 6).blk t).view.emb y) := by
  idx_vars y
  have ht : t.val < 64 := t.isLt
  refine (point_at m c t _ _ (by omega)).trans (congrArg _ (Eq.symm ?_))
  blk_simp
  blk_ext [idx_at t]

/-- What one point stores of the cast array. -/
theorem point1 (c : Dev nD) (t : Fin cfg0.N) (y : S256x2048.Idx) :
    k0_pay1 (k0_pay2 (iblk m c 3 t) (iblk m c 1 t) (iblk m c 2 t) (iblk m c 0 t) (iblk m c 4 t) (iblk m c 5 t)) y
      = want1 m c (((cfg0.win 7).blk t).view.emb y) := by
  have e : (((cfg0.win 7).blk t).view.emb y : S16384x2048.Idx) = ((cfg0.win 6).blk t).view.emb y := by
    idx_vars y
    blk_simp
    blk_ext [idx_at t]
  rw [e]
  exact point0 m c t y

/-- The value stored, its loads of whole blocks read. -/
theorem opened (x0 x1 x2 : Vec Ideal S256x2048 .f32) (x3 : Vec Ideal S256x128 .f32) (x4 x5 : Vec Ideal S1x2048 .f32) :
    k0_pay3 x0 x1 x2 x3 x4 x5 = k0_pay2 x3 x1 x2 x0 x4 x5 := by
  unfold k0_pay3
  rw [View.ld_unit_lit' _ x0, View.ld_unit_lit' _ x1, View.ld_unit_lit' _ x2, View.ld_unit_lit' _ x3, View.ld_unit_lit' _ x4, View.ld_unit_lit' _ x5] <;> decide

/-- The first array after the run is the reference's. -/
theorem final0 (c : Dev nD) : (dats m 0 c).arrAt 6 cfg0.N = want0 m c := by
  refine (dats m 0 c).arrAt_eq_of_covers 6 _ (by decide +kernel) fun t _ y => ?_
  blk_simp
  rw [after0_6]; frame_out
  rw [opened]
  exact point0 m c t y

/-- So is the second. -/
theorem final1 (c : Dev nD) : (dats m 0 c).arrAt 7 cfg0.N = want1 m c := by
  refine (dats m 0 c).arrAt_eq_of_covers 7 _ (by decide +kernel) fun t _ y => ?_
  blk_simp
  rw [after0_7]; frame_out
  rw [opened]
  exact point1 m c t y

end Cert.CombineIdeal.Own

end
-- ==== Proof.CombineClaims.lean ====
/- The claims about the combination with the experts' rows, from its value and the reference's run. -/
module

public import proofs.«01_k».proof.Defs
public import proofs.«01_k».proof.Proof.Gen.Combine.Frame
public import proofs.«01_k».proof.Proof.Combine
public import Idealize.ShloMosaic.Lib.Quiescent

@[expose] public section

set_option maxRecDepth 16384

noncomputable section

open Idealize.ShloMosaic Idealize.ShloMosaic.TcCoe Idealize.SL.Sem

namespace Cert.CombineOwn

/-- The program as written ends with its arguments as they were. -/
theorem frame_p : Cert.quiescent_Combine := fun m ρ _ => Cert.Combine.Gen.frame m ρ

/-- So does the program over the extended reals. -/
theorem frame_i : Cert.quiescent_CombineIdeal := fun m ρ _ => Cert.CombineIdeal.Gen.frame m ρ

/-- So does the reference. -/
theorem frame_r : Cert.quiescent_CombineRefIdeal := fun m ρ _ =>
  (θ_run Cert.CombineRefIdeal.defs _ _).mono (fun r h => ⟨fun c => (h c).2.2,
      Idealize.ShloMosaic.sem_eq_zero_of_no_sems (by decide) r.2⟩)
    (Cert.CombineRefIdeal.Value.run (F := Ideal) m ρ)

/-- The kernel's two arrays are the reference's. -/
theorem algebraic : Cert.algebraic_CombineIdeal_CombineRefIdeal := by
  intro m ρ m' ρ' _ hagree
  refine ⟨fun c => Cert.CombineIdeal.Own.want0 m c, fun c => Cert.CombineIdeal.Own.want1 m c, ?_, ?_⟩
  · exact (θ_run Cert.CombineIdeal.defs _ _).mono
      (fun _ h c => ⟨(h c).1.trans (Cert.CombineIdeal.Own.final0 m c), (h c).2.1.trans (Cert.CombineIdeal.Own.final1 m c), (h c).2.2⟩)
      (Cert.CombineIdeal.Value.run_blocks (F := Ideal) m ρ)
  · refine (θ_run Cert.CombineRefIdeal.defs _ _).mono (fun _ h c => ⟨(h c).1.trans ?_, (h c).2.1.trans ?_, (h c).2.2⟩)
      (Cert.CombineRefIdeal.Value.run (F := Ideal) m' ρ')
    · refine (Cert.CombineRefIdeal.Read.val_main_v33_eq (F := Ideal) m' c).trans ?_
      rw [(hagree c).1, (hagree c).2.1, (hagree c).2.2.1, (hagree c).2.2.2.1, (hagree c).2.2.2.2.1, (hagree c).2.2.2.2.2]
    · refine (Cert.CombineRefIdeal.Read.val_main_v34_eq (F := Ideal) m' c).trans ?_
      rw [(hagree c).1, (hagree c).2.1, (hagree c).2.2.1, (hagree c).2.2.2.1, (hagree c).2.2.2.2.1, (hagree c).2.2.2.2.2]

end Cert.CombineOwn

end
-- ==== Proof.lean ====
module

public import proofs.«01_k».proof.Defs
public import proofs.«01_k».proof.Proof.Gen.Attention
public import proofs.«01_k».proof.Proof.Gen.AttentionIdeal
public import proofs.«01_k».proof.Proof.Gen.AttentionRefIdeal
public import proofs.«01_k».proof.Proof.Gen.ProjA
public import proofs.«01_k».proof.Proof.Gen.ProjAIdeal
public import proofs.«01_k».proof.Proof.Gen.ProjARefIdeal
public import proofs.«01_k».proof.Proof.Gen.ProjB
public import proofs.«01_k».proof.Proof.Gen.ProjBIdeal
public import proofs.«01_k».proof.Proof.Gen.ProjBRefIdeal
public import proofs.«01_k».proof.Proof.Gen.ProjC
public import proofs.«01_k».proof.Proof.Gen.ProjCIdeal
public import proofs.«01_k».proof.Proof.Gen.ProjCRefIdeal
public import proofs.«01_k».proof.Proof.Gen.ProjG
public import proofs.«01_k».proof.Proof.Gen.ProjGIdeal
public import proofs.«01_k».proof.Proof.Gen.ProjGRefIdeal
public import proofs.«01_k».proof.Proof.Gen.Merge
public import proofs.«01_k».proof.Proof.Gen.MergeIdeal
public import proofs.«01_k».proof.Proof.Gen.MergeRefIdeal
public import proofs.«01_k».proof.Proof.Gen.OutProj
public import proofs.«01_k».proof.Proof.Gen.OutProjIdeal
public import proofs.«01_k».proof.Proof.Gen.OutProjRefIdeal
public import proofs.«01_k».proof.Proof.Gen.Experts
public import proofs.«01_k».proof.Proof.Gen.ExpertsIdeal
public import proofs.«01_k».proof.Proof.Gen.ExpertsRefIdeal
public import proofs.«01_k».proof.Proof.Gen.Combine
public import proofs.«01_k».proof.Proof.Gen.CombineIdeal
public import proofs.«01_k».proof.Proof.Gen.CombineRefIdeal
public import proofs.«01_k».proof.Proof.Gen.Pre_gains_finite
public import proofs.«01_k».proof.Proof.Gen.Pre_experts_named
public import proofs.«01_k».proof.Proof.AttentionClaims
public import proofs.«01_k».proof.Proof.ProjAClaims
public import proofs.«01_k».proof.Proof.ProjBClaims
public import proofs.«01_k».proof.Proof.ProjCClaims
public import proofs.«01_k».proof.Proof.ProjGClaims
public import proofs.«01_k».proof.Proof.MergeClaims
public import proofs.«01_k».proof.Proof.OutProjClaims
public import proofs.«01_k».proof.Proof.ExpertsClaims
public import proofs.«01_k».proof.Proof.CombineClaims

@[expose] public section

noncomputable section

namespace Cert.Proof

/-- Every claim of the statement: the frames, what the idealized programs preserve, and the values. -/
theorem claim : Cert.Claim := ⟨
  Cert.Attention.Gen.facts,
  Cert.AttentionIdeal.Gen.facts,
  Cert.AttentionRefIdeal.Gen.facts,
  Cert.ProjA.Gen.facts,
  Cert.ProjAIdeal.Gen.facts,
  Cert.ProjARefIdeal.Gen.facts,
  Cert.ProjB.Gen.facts,
  Cert.ProjBIdeal.Gen.facts,
  Cert.ProjBRefIdeal.Gen.facts,
  Cert.ProjC.Gen.facts,
  Cert.ProjCIdeal.Gen.facts,
  Cert.ProjCRefIdeal.Gen.facts,
  Cert.ProjG.Gen.facts,
  Cert.ProjGIdeal.Gen.facts,
  Cert.ProjGRefIdeal.Gen.facts,
  Cert.Merge.Gen.facts,
  Cert.MergeIdeal.Gen.facts,
  Cert.MergeRefIdeal.Gen.facts,
  Cert.OutProj.Gen.facts,
  Cert.OutProjIdeal.Gen.facts,
  Cert.OutProjRefIdeal.Gen.facts,
  Cert.Experts.Gen.facts,
  Cert.ExpertsIdeal.Gen.facts,
  Cert.ExpertsRefIdeal.Gen.facts,
  Cert.Combine.Gen.facts,
  Cert.CombineIdeal.Gen.facts,
  Cert.CombineRefIdeal.Gen.facts,
  Cert.Pre_gains_finite.Gen.facts,
  Cert.Pre_experts_named.Gen.facts,
  Cert.AttentionOwn.frame_p,
  Cert.AttentionOwn.frame_i,
  Cert.AttentionOwn.frame_i_pre,
  Cert.AttentionOwn.frame_r,
  Cert.AttentionOwn.frame_r_pre,
  Cert.ProjAOwn.frame_p,
  Cert.ProjAOwn.frame_i,
  Cert.ProjAOwn.frame_r,
  Cert.ProjBOwn.frame_p,
  Cert.ProjBOwn.frame_i,
  Cert.ProjBOwn.frame_r,
  Cert.ProjCOwn.frame_p,
  Cert.ProjCOwn.frame_i,
  Cert.ProjCOwn.frame_r,
  Cert.ProjGOwn.frame_p,
  Cert.ProjGOwn.frame_i,
  Cert.ProjGOwn.frame_r,
  Cert.MergeOwn.frame_p,
  Cert.MergeOwn.frame_i,
  Cert.MergeOwn.frame_r,
  Cert.OutProjOwn.frame_p,
  Cert.OutProjOwn.frame_i,
  Cert.OutProjOwn.frame_r,
  Cert.ExpertsOwn.frame_p,
  Cert.ExpertsOwn.frame_i,
  Cert.ExpertsOwn.frame_r,
  Cert.ExpertsOwn.frame_r_pre,
  Cert.CombineOwn.frame_p,
  Cert.CombineOwn.frame_i,
  Cert.CombineOwn.frame_r,
  trivial,
  Cert.AttentionOwn.algebraic,
  trivial,
  Cert.ProjAOwn.algebraic,
  trivial,
  Cert.ProjBOwn.algebraic,
  trivial,
  Cert.ProjCOwn.algebraic,
  trivial,
  Cert.ProjGOwn.algebraic,
  trivial,
  Cert.MergeOwn.algebraic,
  trivial,
  Cert.OutProjOwn.algebraic,
  trivial,
  Cert.ExpertsOwn.algebraic,
  trivial,
  Cert.CombineOwn.algebraic⟩

end Cert.Proof

end
